-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log_scale" .f32 0x3E924925#32 ((2 / 7 : ℝ) : EReal)
  ∧ IdealRules.named_const.Statement Cert.KernelIdeal.κ "log_shift" .f32 0x3FA49249#32 ((9 / 7 : ℝ) : EReal)
  ∧ IdealRules.named_const.Statement Cert.KernelIdeal.κ "log_0_0" .f32 0x3FA638FA#32 ((2659561 / 2048000 : ℝ) : EReal)
  ∧ IdealRules.named_const.Statement Cert.KernelIdeal.κ "log_0_1" .f32 0x3F748423#32 ((1025575086793 / 1073741824000 : ℝ) : EReal)
  ∧ IdealRules.named_const.Statement Cert.KernelIdeal.κ "log_0_2" .f32 0xBE697264#32 ((-489573510233 / 2147483648000 : ℝ) : EReal)
  ∧ IdealRules.named_const.Statement Cert.KernelIdeal.κ "log_0_3" .f32 0x3D942657#32 ((155346289357 / 2147483648000 : ℝ) : EReal)
  ∧ IdealRules.named_const.Statement Cert.KernelIdeal.κ "log_0_4" .f32 0xBCCF90AF#32 ((-435295704191 / 17179869184000 : ℝ) : EReal)
  ∧ IdealRules.named_const.Statement Cert.KernelIdeal.κ "log_0_5" .f32 0x3C084F9E#32 ((78577944984931683499349 / 9444732965739290427392000 : ℝ) : EReal)
  ∧ IdealRules.named_const.Statement Cert.KernelIdeal.κ "log_1_0" .f32 0xBB819EBE#32 ((-16591371 / 4194304000 : ℝ) : EReal)
  ∧ IdealRules.named_const.Statement Cert.KernelIdeal.κ "log_1_1" .f32 0x3B543F61#32 ((15294049820064639910571 / 4722366482869645213696000 : ℝ) : EReal)
  ∧ IdealRules.named_const.Statement Cert.KernelIdeal.κ "log_1_2" .f32 0xBAB133C1#32 ((-11613121409 / 8589934592000 : ℝ) : EReal)
  ∧ IdealRules.named_const.Statement Cert.KernelIdeal.κ "log_1_3" .f32 0x3A15967C#32 ((612711731 / 1073741824000 : ℝ) : EReal)
  ∧ IdealRules.named_const.Statement Cert.KernelIdeal.κ "log_1_4" .f32 0xB97969B5#32 ((-255398823 / 1073741824000 : ℝ) : EReal)
  ∧ IdealRules.named_const.Statement Cert.KernelIdeal.κ "log_1_5" .f32 0x38B58674#32 ((9294091 / 107374182400 : ℝ) : EReal)
  ∧ IdealRules.named_const.Statement Cert.KernelIdeal.κ "log_2_0" .f32 0xB7C4D320#32 ((-12596781 / 536870912000 : ℝ) : EReal)
  ∧ IdealRules.named_const.Statement Cert.KernelIdeal.κ "log_2_1" .f32 0x37AD4F45#32 ((11091817 / 536870912000 : ℝ) : EReal)
  ∧ IdealRules.named_const.Statement Cert.KernelIdeal.κ "log_2_2" .f32 0xB718B278#32 ((-9772617 / 1073741824000 : ℝ) : EReal)
  ∧ IdealRules.named_const.Statement Cert.KernelIdeal.κ "log_2_3" .f32 0x3683A1E5#32 ((4212237 / 1073741824000 : ℝ) : EReal)
  ∧ IdealRules.named_const.Statement Cert.KernelIdeal.κ "log_2_4" .f32 0xB5C40082#32 ((-12544127 / 8589934592000 : ℝ) : EReal)
  ∧ IdealRules.named_const.Statement Cert.KernelIdeal.κ "log_2_5" .f32 0x2173AB58#32 ((3898709 / 4722366482869645213696000 : ℝ) : EReal)
  ∧ IdealRules.named_const.Statement Cert.KernelIdeal.κ "exp_scale" .f32 0x3F5E9BD3#32 ((20 / 23 : ℝ) : EReal)
  ∧ IdealRules.named_const.Statement Cert.KernelIdeal.κ "exp_shift" .f32 0x3F69BD38#32 ((21 / 23 : ℝ) : EReal)
  ∧ IdealRules.named_const.Statement Cert.KernelIdeal.κ "exp_0_0" .f32 0x40788B07#32 ((15906757 / 4096000 : ℝ) : EReal)
  ∧ IdealRules.named_const.Statement Cert.KernelIdeal.κ "exp_0_1" .f32 0x40770F68#32 ((265278854165887 / 68719476736000 : ℝ) : EReal)
  ∧ IdealRules.named_const.Statement Cert.KernelIdeal.κ "exp_0_2" .f32 0x3F86C9E0#32 ((578912503473991 / 549755813888000 : ℝ) : EReal)
  ∧ IdealRules.named_const.Statement Cert.KernelIdeal.κ "exp_0_3" .f32 0x3E460A3C#32 ((57081135319204449443571 / 295147905179352825856000 : ℝ) : EReal)
  ∧ IdealRules.named_const.Statement Cert.KernelIdeal.κ "exp_1_0" .f32 0x3CE3BEF9#32 ((14575743 / 524288000 : ℝ) : EReal)
  ∧ IdealRules.named_const.Statement Cert.KernelIdeal.κ "exp_1_1" .f32 0x3BCF4286#32 ((933415425450098598157 / 147573952589676412928000 : ℝ) : EReal)
  ∧ IdealRules.named_const.Statement Cert.KernelIdeal.κ "exp_1_2" .f32 0x3A1DA978#32 ((165320579257 / 274877906944000 : ℝ) : EReal)
  ∧ IdealRules.named_const.Statement Cert.KernelIdeal.κ "exp_1_3" .f32 0x384D117E#32 ((335983949 / 6871947673600 : ℝ) : EReal)
  ∧ IdealRules.named_const.Statement Cert.KernelIdeal.κ "exp_2_0" .f32 0x35EBD41D#32 ((3773257 / 2147483648000 : ℝ) : EReal)
  ∧ IdealRules.named_const.Statement Cert.KernelIdeal.κ "exp_2_1" .f32 0x3470301F#32 ((1537203 / 6871947673600 : ℝ) : EReal)
  ∧ IdealRules.named_const.Statement Cert.KernelIdeal.κ "exp_2_2" .f32 0x325BC3B2#32 ((3516231 / 274877906944000 : ℝ) : EReal)
  ∧ IdealRules.named_const.Statement Cert.KernelIdeal.κ "exp_2_3" .f32 0x24C80F4F#32 ((12803827 / 147573952589676412928000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x16x64x64 : Shape := ⟨4, ![512, 16, 64, 64]⟩
abbrev S16x16 : Shape := ⟨2, ![16, 16]⟩
abbrev S_ : Shape := ⟨0, ![]⟩

class Facts : Prop where
  bcast_S_S512x16x64x64 : S_.BroadcastsInDim S512x16x64x64 (![] : Fin 0 → Fin S512x16x64x64.rank)
  reducesTo_S512x16x64x64_S_d0_1_2_3 : S512x16x64x64.ReducesTo [0, 1, 2, 3] S_
  h_S_ : 0 < S_.numel

variable [Facts]

def fn {F : FTy → Type} [FloatOps F] (main_arg0 : FVec F S512x16x64x64 .f32) (main_arg1 : FVec F S16x16 .f32) : IVec S_ 1 :=
  let main_v0 : FVec F S512x16x64x64 .f32 := Host.absf main_arg0
  let main_cst : FVec F S_ .f32 := constant S_ .f32 0x7F800000#32
  let main_v1 : FVec F S512x16x64x64 .f32 := broadcastInDim S512x16x64x64 ![] bcast_S_S512x16x64x64 main_cst
  let main_v2 : IVec S512x16x64x64 1 := cmpf .olt main_v0 main_v1
  let main_c : IVec S_ 1 := constantI S_ 1 1#1
  let main_v3 : IVec S_ 1 := (fun x v => Host.reduce IntOp.andi x v reducesTo_S512x16x64x64_S_d0_1_2_3 h_S_) main_v2 main_c
  main_v3
-- ==== Kernel.lean ====
abbrev S512x16x64x64 : Shape := ⟨4, ![512, 16, 64, 64]⟩
abbrev S16x16 : Shape := ⟨2, ![16, 16]⟩
abbrev S16 : Shape := ⟨1, ![16]⟩
abbrev S16x1 : Shape := ⟨2, ![16, 1]⟩
abbrev S4x16x64x64 : Shape := ⟨4, ![4, 16, 64, 64]⟩
abbrev S16x256x256 : Shape := ⟨3, ![16, 256, 256]⟩
abbrev S256x256 : Shape := ⟨2, ![256, 256]⟩
abbrev S64x64 : Shape := ⟨2, ![64, 64]⟩
abbrev S1x1x64x64 : Shape := ⟨4, ![1, 1, 64, 64]⟩
abbrev S1x64x64 : Shape := ⟨3, ![1, 64, 64]⟩
abbrev S1x256x256 : Shape := ⟨3, ![1, 256, 256]⟩
abbrev S1x1 : Shape := ⟨2, ![1, 1]⟩

abbrev nBuf : Space → Nat
  | .hbm => 5
  | .vmem => 8
  | .smem => 1
  | _ => 0

abbrev bufTy : (tb : Table) → Fin (tcTables nBuf tb) → BufTy
  | .hbm, ⟨0, _⟩ => ⟨S512x16x64x64, .f32⟩
  | .hbm, ⟨1, _⟩ => ⟨S16x16, .f32⟩
  | .hbm, ⟨2, _⟩ => ⟨S512x16x64x64, .bf16⟩
  | .hbm, ⟨3, _⟩ => ⟨S16x16, .f32⟩
  | .hbm, ⟨4, _⟩ => ⟨S512x16x64x64, .f32⟩
  | .local _ .vmem, ⟨0, _⟩ => ⟨S16x16, .f32⟩
  | .local _ .vmem, ⟨1, _⟩ => ⟨S16x16, .f32⟩
  | .local _ .vmem, ⟨2, _⟩ => ⟨S4x16x64x64, .bf16⟩
  | .local _ .vmem, ⟨3, _⟩ => ⟨S4x16x64x64, .bf16⟩
  | .local _ .vmem, ⟨4, _⟩ => ⟨S4x16x64x64, .f32⟩
  | .local _ .vmem, ⟨5, _⟩ => ⟨S4x16x64x64, .f32⟩
  | .local _ .vmem, ⟨6, _⟩ => ⟨S16x256x256, .f32⟩
  | .local _ .vmem, ⟨7, _⟩ => ⟨S4x16x64x64, .f32⟩
  | .local _ .smem, ⟨0, _⟩ => ⟨S16x16, .f32⟩
  | _, _ => ⟨S512x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_scratch0 : Ref sig .tc := ⟨.vmem, 6, rfl⟩
abbrev cc1_scratch1 : Ref sig .tc := ⟨.vmem, 7, rfl⟩
abbrev cc1_stg1_0 : Ref sig .tc := ⟨.smem, 0, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .vmem S16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x16x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "exp_0_0" => some ((15906757 / 4096000 : ℝ) : EReal)
  | "exp_0_1" => some ((265278854165887 / 68719476736000 : ℝ) : EReal)
  | "exp_0_2" => some ((578912503473991 / 549755813888000 : ℝ) : EReal)
  | "exp_0_3" => some ((57081135319204449443571 / 295147905179352825856000 : ℝ) : EReal)
  | "exp_1_0" => some ((14575743 / 524288000 : ℝ) : EReal)
  | "exp_1_1" => some ((933415425450098598157 / 147573952589676412928000 : ℝ) : EReal)
  | "exp_1_2" => some ((165320579257 / 274877906944000 : ℝ) : EReal)
  | "exp_1_3" => some ((335983949 / 6871947673600 : ℝ) : EReal)
  | "exp_2_0" => some ((3773257 / 2147483648000 : ℝ) : EReal)
  | "exp_2_1" => some ((1537203 / 6871947673600 : ℝ) : EReal)
  | "exp_2_2" => some ((3516231 / 274877906944000 : ℝ) : EReal)
  | "exp_2_3" => some ((12803827 / 147573952589676412928000 : ℝ) : EReal)
  | "exp_scale" => some ((20 / 23 : ℝ) : EReal)
  | "exp_shift" => some ((21 / 23 : ℝ) : EReal)
  | "log_0_0" => some ((2659561 / 2048000 : ℝ) : EReal)
  | "log_0_1" => some ((1025575086793 / 1073741824000 : ℝ) : EReal)
  | "log_0_2" => some ((-489573510233 / 2147483648000 : ℝ) : EReal)
  | "log_0_3" => some ((155346289357 / 2147483648000 : ℝ) : EReal)
  | "log_0_4" => some ((-435295704191 / 17179869184000 : ℝ) : EReal)
  | "log_0_5" => some ((78577944984931683499349 / 9444732965739290427392000 : ℝ) : EReal)
  | "log_1_0" => some ((-16591371 / 4194304000 : ℝ) : EReal)
  | "log_1_1" => some ((15294049820064639910571 / 4722366482869645213696000 : ℝ) : EReal)
  | "log_1_2" => some ((-11613121409 / 8589934592000 : ℝ) : EReal)
  | "log_1_3" => some ((612711731 / 1073741824000 : ℝ) : EReal)
  | "log_1_4" => some ((-255398823 / 1073741824000 : ℝ) : EReal)
  | "log_1_5" => some ((9294091 / 107374182400 : ℝ) : EReal)
  | "log_2_0" => some ((-12596781 / 536870912000 : ℝ) : EReal)
  | "log_2_1" => some ((11091817 / 536870912000 : ℝ) : EReal)
  | "log_2_2" => some ((-9772617 / 1073741824000 : ℝ) : EReal)
  | "log_2_3" => some ((4212237 / 1073741824000 : ℝ) : EReal)
  | "log_2_4" => some ((-12544127 / 8589934592000 : ℝ) : EReal)
  | "log_2_5" => some ((3898709 / 4722366482869645213696000 : ℝ) : EReal)
  | "log_scale" => some ((2 / 7 : ℝ) : EReal)
  | "log_shift" => some ((9 / 7 : ℝ) : EReal)
  | _ => none
-- ==== ReferenceIdeal.lean ====
abbrev S512x16x64x64 : Shape := ⟨4, ![512, 16, 64, 64]⟩
abbrev S16x16 : Shape := ⟨2, ![16, 16]⟩
abbrev S_ : Shape := ⟨0, ![]⟩
abbrev S16 : Shape := ⟨1, ![16]⟩
abbrev S1x16 : Shape := ⟨2, ![1, 16]⟩
abbrev S16x1 : Shape := ⟨2, ![16, 1]⟩
abbrev S16x1x1 : Shape := ⟨3, ![16, 1, 1]⟩
abbrev S1 : Shape := ⟨1, ![1]⟩
abbrev S1x1x1 : Shape := ⟨3, ![1, 1, 1]⟩
abbrev S64x64 : Shape := ⟨2, ![64, 64]⟩
abbrev S1x1x64x64 : Shape := ⟨4, ![1, 1, 64, 64]⟩
abbrev S512x64x64x16 : Shape := ⟨4, ![512, 64, 64, 16]⟩

abbrev nBuf : Space → Nat
  | .hbm => 372
  | .vmem => 0
  | .smem => 0
  | _ => 0

abbrev hbmTy0_0 (i : Nat) : BufTy := match i % 128 with
  | 0 => ⟨S512x16x64x64, .f32⟩
  | 1 => ⟨S16x16, .f32⟩
  | 2 => ⟨S16x16, .f32⟩
  | 3 => ⟨S16x16, .f32⟩
  | 4 => ⟨S_, .f32⟩
  | 5 => ⟨S_, .f32⟩
  | 6 => ⟨S16x16, .f32⟩
  | 7 => ⟨S16, .f32⟩
  | 8 => ⟨S_, .f32⟩
  | 9 => ⟨S16, .f32⟩
  | 10 => ⟨S16, .f32⟩
  | 11 => ⟨S1x16, .f32⟩
  | 12 => ⟨S16x16, .f32⟩
  | 13 => ⟨S16x16, .f32⟩
  | 14 => ⟨S_, .f32⟩
  | 15 => ⟨S16x16, .f32⟩
  | 16 => ⟨S16x16, .f32⟩
  | 17 => ⟨S16x16, .i1⟩
  | 18 => ⟨S16x16, .i32⟩
  | 19 => ⟨S_, .i32⟩
  | 20 => ⟨S16, .i32⟩
  | 21 => ⟨S16x1, .i32⟩
  | 22 => ⟨S_, .i32⟩
  | 23 => ⟨S16x1, .i32⟩
  | 24 => ⟨S16x1, .i32⟩
  | 25 => ⟨S_, .i32⟩
  | 26 => ⟨S16x1, .i32⟩
  | 27 => ⟨S16x1, .i1⟩
  | 28 => ⟨S_, .i32⟩
  | 29 => ⟨S16x1, .i32⟩
  | 30 => ⟨S16x1, .i32⟩
  | 31 => ⟨S16x1, .i32⟩
  | 32 => ⟨S16x1x1, .i32⟩
  | 33 => ⟨S1, .i32⟩
  | 34 => ⟨S_, .i32⟩
  | 35 => ⟨S16x1x1, .i32⟩
  | 36 => ⟨S16x1x1, .i1⟩
  | 37 => ⟨S1x1x1, .i32⟩
  | 38 => ⟨S16x1x1, .i32⟩
  | 39 => ⟨S16x1x1, .i1⟩
  | 40 => ⟨S16x1x1, .i1⟩
  | 41 => ⟨S_, .i1⟩
  | 42 => ⟨S16x1, .i1⟩
  | 43 => ⟨S16x1, .f32⟩
  | 44 => ⟨S_, .f32⟩
  | 45 => ⟨S16x1, .f32⟩
  | 46 => ⟨S16x1, .f32⟩
  | 47 => ⟨S_, .f32⟩
  | 48 => ⟨S16x1, .f32⟩
  | 49 => ⟨S16x1, .f32⟩
  | 50 => ⟨S16x1, .f32⟩
  | 51 => ⟨S16x1, .f32⟩
  | 52 => ⟨S16x1, .f32⟩
  | 53 => ⟨S_, .f32⟩
  | 54 => ⟨S16x1, .f32⟩
  | 55 => ⟨S16x1, .f32⟩
  | 56 => ⟨S16x1, .f32⟩
  | 57 => ⟨S_, .f32⟩
  | 58 => ⟨S16x1, .f32⟩
  | 59 => ⟨S16x1, .f32⟩
  | 60 => ⟨S16x1, .f32⟩
  | 61 => ⟨S_, .f32⟩
  | 62 => ⟨S16x1, .f32⟩
  | 63 => ⟨S16x1, .f32⟩
  | 64 => ⟨S_, .f32⟩
  | 65 => ⟨S16x1, .f32⟩
  | 66 => ⟨S16x1, .f32⟩
  | 67 => ⟨S_, .f32⟩
  | 68 => ⟨S16x1, .f32⟩
  | 69 => ⟨S16x1, .f32⟩
  | 70 => ⟨S16x1, .f32⟩
  | 71 => ⟨S16x16, .f32⟩
  | 72 => ⟨S16x16, .f32⟩
  | 73 => ⟨S_, .f32⟩
  | 74 => ⟨S16x16, .f32⟩
  | 75 => ⟨S16x16, .f32⟩
  | 76 => ⟨S64x64, .i32⟩
  | 77 => ⟨S64x64, .i32⟩
  | 78 => ⟨S_, .i32⟩
  | 79 => ⟨S64x64, .i32⟩
  | 80 => ⟨S64x64, .i32⟩
  | 81 => ⟨S64x64, .i1⟩
  | 82 => ⟨S64x64, .f32⟩
  | 83 => ⟨S_, .f32⟩
  | 84 => ⟨S512x16x64x64, .f32⟩
  | 85 => ⟨S512x16x64x64, .f32⟩
  | 86 => ⟨S_, .f32⟩
  | 87 => ⟨S64x64, .f32⟩
  | 88 => ⟨S64x64, .f32⟩
  | 89 => ⟨S1x1x64x64, .f32⟩
  | 90 => ⟨S512x16x64x64, .f32⟩
  | 91 => ⟨S512x16x64x64, .f32⟩
  | 92 => ⟨S_, .f32⟩
  | 93 => ⟨S512x16x64x64, .f32⟩
  | 94 => ⟨S512x16x64x64, .f32⟩
  | 95 => ⟨S512x16x64x64, .f32⟩
  | 96 => ⟨S_, .f32⟩
  | 97 => ⟨S512x16x64x64, .f32⟩
  | 98 => ⟨S512x16x64x64, .f32⟩
  | 99 => ⟨S_, .f32⟩
  | 100 => ⟨S512x16x64x64, .f32⟩
  | 101 => ⟨S512x16x64x64, .f32⟩
  | 102 => ⟨S512x16x64x64, .f32⟩
  | 103 => ⟨S512x16x64x64, .f32⟩
  | 104 => ⟨S_, .f32⟩
  | 105 => ⟨S512x16x64x64, .f32⟩
  | 106 => ⟨S512x16x64x64, .f32⟩
  | 107 => ⟨S512x16x64x64, .f32⟩
  | 108 => ⟨S_, .f32⟩
  | 109 => ⟨S512x16x64x64, .f32⟩
  | 110 => ⟨S512x16x64x64, .f32⟩
  | 111 => ⟨S512x16x64x64, .f32⟩
  | 112 => ⟨S512x16x64x64, .f32⟩
  | 113 => ⟨S_, .f32⟩
  | 114 => ⟨S512x16x64x64, .f32⟩
  | 115 => ⟨S512x16x64x64, .f32⟩
  | 116 => ⟨S512x16x64x64, .f32⟩
  | 117 => ⟨S_, .f32⟩
  | 118 => ⟨S512x16x64x64, .f32⟩
  | 119 => ⟨S512x16x64x64, .f32⟩
  | 120 => ⟨S512x16x64x64, .f32⟩
  | 121 => ⟨S512x16x64x64, .f32⟩
  | 122 => ⟨S_, .f32⟩
  | 123 => ⟨S512x16x64x64, .f32⟩
  | 124 => ⟨S512x16x64x64, .f32⟩
  | 125 => ⟨S512x16x64x64, .f32⟩
  | 126 => ⟨S_, .f32⟩
  | 127 => ⟨S512x16x64x64, .f32⟩
  | _ => ⟨S512x16x64x64, .f32⟩

abbrev hbmTy0_1 (i : Nat) : BufTy := match i % 128 with
  | 0 => ⟨S512x16x64x64, .f32⟩
  | 1 => ⟨S512x16x64x64, .f32⟩
  | 2 => ⟨S512x16x64x64, .f32⟩
  | 3 => ⟨S_, .f32⟩
  | 4 => ⟨S512x16x64x64, .f32⟩
  | 5 => ⟨S512x16x64x64, .f32⟩
  | 6 => ⟨S512x16x64x64, .f32⟩
  | 7 => ⟨S_, .f32⟩
  | 8 => ⟨S512x16x64x64, .f32⟩
  | 9 => ⟨S512x16x64x64, .f32⟩
  | 10 => ⟨S512x16x64x64, .f32⟩
  | 11 => ⟨S512x16x64x64, .f32⟩
  | 12 => ⟨S_, .f32⟩
  | 13 => ⟨S512x16x64x64, .f32⟩
  | 14 => ⟨S512x16x64x64, .f32⟩
  | 15 => ⟨S512x16x64x64, .f32⟩
  | 16 => ⟨S_, .f32⟩
  | 17 => ⟨S512x16x64x64, .f32⟩
  | 18 => ⟨S512x16x64x64, .f32⟩
  | 19 => ⟨S512x16x64x64, .f32⟩
  | 20 => ⟨S512x16x64x64, .f32⟩
  | 21 => ⟨S_, .f32⟩
  | 22 => ⟨S512x16x64x64, .f32⟩
  | 23 => ⟨S512x16x64x64, .f32⟩
  | 24 => ⟨S512x16x64x64, .f32⟩
  | 25 => ⟨S_, .f32⟩
  | 26 => ⟨S512x16x64x64, .f32⟩
  | 27 => ⟨S512x16x64x64, .f32⟩
  | 28 => ⟨S512x16x64x64, .f32⟩
  | 29 => ⟨S512x16x64x64, .f32⟩
  | 30 => ⟨S_, .f32⟩
  | 31 => ⟨S512x16x64x64, .f32⟩
  | 32 => ⟨S512x16x64x64, .f32⟩
  | 33 => ⟨S512x16x64x64, .f32⟩
  | 34 => ⟨S_, .f32⟩
  | 35 => ⟨S512x16x64x64, .f32⟩
  | 36 => ⟨S512x16x64x64, .f32⟩
  | 37 => ⟨S512x16x64x64, .f32⟩
  | 38 => ⟨S512x16x64x64, .f32⟩
  | 39 => ⟨S_, .f32⟩
  | 40 => ⟨S512x16x64x64, .f32⟩
  | 41 => ⟨S512x16x64x64, .f32⟩
  | 42 => ⟨S512x16x64x64, .f32⟩
  | 43 => ⟨S_, .f32⟩
  | 44 => ⟨S512x16x64x64, .f32⟩
  | 45 => ⟨S512x16x64x64, .f32⟩
  | 46 => ⟨S512x16x64x64, .f32⟩
  | 47 => ⟨S512x16x64x64, .f32⟩
  | 48 => ⟨S_, .f32⟩
  | 49 => ⟨S512x16x64x64, .f32⟩
  | 50 => ⟨S512x16x64x64, .f32⟩
  | 51 => ⟨S512x16x64x64, .f32⟩
  | 52 => ⟨S_, .f32⟩
  | 53 => ⟨S512x16x64x64, .f32⟩
  | 54 => ⟨S512x16x64x64, .f32⟩
  | 55 => ⟨S512x16x64x64, .f32⟩
  | 56 => ⟨S512x16x64x64, .f32⟩
  | 57 => ⟨S_, .f32⟩
  | 58 => ⟨S512x16x64x64, .f32⟩
  | 59 => ⟨S512x16x64x64, .f32⟩
  | 60 => ⟨S512x16x64x64, .f32⟩
  | 61 => ⟨S_, .f32⟩
  | 62 => ⟨S512x16x64x64, .f32⟩
  | 63 => ⟨S512x16x64x64, .f32⟩
  | 64 => ⟨S512x16x64x64, .f32⟩
  | 65 => ⟨S512x16x64x64, .f32⟩
  | 66 => ⟨S_, .f32⟩
  | 67 => ⟨S512x16x64x64, .f32⟩
  | 68 => ⟨S512x16x64x64, .f32⟩
  | 69 => ⟨S512x16x64x64, .f32⟩
  | 70 => ⟨S_, .f32⟩
  | 71 => ⟨S512x16x64x64, .f32⟩
  | 72 => ⟨S512x16x64x64, .f32⟩
  | 73 => ⟨S512x16x64x64, .f32⟩
  | 74 => ⟨S512x16x64x64, .f32⟩
  | 75 => ⟨S_, .f32⟩
  | 76 => ⟨S512x16x64x64, .f32⟩
  | 77 => ⟨S512x16x64x64, .f32⟩
  | 78 => ⟨S512x16x64x64, .f32⟩
  | 79 => ⟨S_, .f32⟩
  | 80 => ⟨S512x16x64x64, .f32⟩
  | 81 => ⟨S512x16x64x64, .f32⟩
  | 82 => ⟨S512x16x64x64, .f32⟩
  | 83 => ⟨S512x16x64x64, .f32⟩
  | 84 => ⟨S_, .f32⟩
  | 85 => ⟨S512x16x64x64, .f32⟩
  | 86 => ⟨S512x16x64x64, .f32⟩
  | 87 => ⟨S512x16x64x64, .f32⟩
  | 88 => ⟨S_, .f32⟩
  | 89 => ⟨S512x16x64x64, .f32⟩
  | 90 => ⟨S512x16x64x64, .f32⟩
  | 91 => ⟨S512x16x64x64, .f32⟩
  | 92 => ⟨S512x16x64x64, .f32⟩
  | 93 => ⟨S_, .f32⟩
  | 94 => ⟨S512x16x64x64, .f32⟩
  | 95 => ⟨S512x16x64x64, .f32⟩
  | 96 => ⟨S512x16x64x64, .f32⟩
  | 97 => ⟨S_, .f32⟩
  | 98 => ⟨S512x16x64x64, .f32⟩
  | 99 => ⟨S512x16x64x64, .f32⟩
  | 100 => ⟨S512x16x64x64, .f32⟩
  | 101 => ⟨S512x16x64x64, .f32⟩
  | 102 => ⟨S_, .f32⟩
  | 103 => ⟨S512x16x64x64, .f32⟩
  | 104 => ⟨S512x16x64x64, .f32⟩
  | 105 => ⟨S512x16x64x64, .f32⟩
  | 106 => ⟨S_, .f32⟩
  | 107 => ⟨S512x16x64x64, .f32⟩
  | 108 => ⟨S512x16x64x64, .f32⟩
  | 109 => ⟨S512x16x64x64, .f32⟩
  | 110 => ⟨S512x16x64x64, .f32⟩
  | 111 => ⟨S_, .f32⟩
  | 112 => ⟨S512x16x64x64, .f32⟩
  | 113 => ⟨S512x16x64x64, .f32⟩
  | 114 => ⟨S512x16x64x64, .f32⟩
  | 115 => ⟨S_, .f32⟩
  | 116 => ⟨S512x16x64x64, .f32⟩
  | 117 => ⟨S512x16x64x64, .f32⟩
  | 118 => ⟨S512x16x64x64, .f32⟩
  | 119 => ⟨S_, .f32⟩
  | 120 => ⟨S512x16x64x64, .f32⟩
  | 121 => ⟨S512x16x64x64, .f32⟩
  | 122 => ⟨S512x64x64x16, .f32⟩
  | 123 => ⟨S512x16x64x64, .f32⟩
  | 124 => ⟨S64x64, .i32⟩
  | 125 => ⟨S64x64, .i32⟩
  | 126 => ⟨S_, .i32⟩
  | 127 => ⟨S64x64, .i32⟩
  | _ => ⟨S512x16x64x64, .f32⟩

abbrev hbmTy0_2 (i : Nat) : BufTy := match i % 128 with
  | 0 => ⟨S64x64, .i32⟩
  | 1 => ⟨S64x64, .i1⟩
  | 2 => ⟨S64x64, .f32⟩
  | 3 => ⟨S_, .f32⟩
  | 4 => ⟨S512x16x64x64, .f32⟩
  | 5 => ⟨S512x16x64x64, .f32⟩
  | 6 => ⟨S_, .f32⟩
  | 7 => ⟨S64x64, .f32⟩
  | 8 => ⟨S64x64, .f32⟩
  | 9 => ⟨S1x1x64x64, .f32⟩
  | 10 => ⟨S512x16x64x64, .f32⟩
  | 11 => ⟨S512x16x64x64, .f32⟩
  | 12 => ⟨S_, .f32⟩
  | 13 => ⟨S512x16x64x64, .f32⟩
  | 14 => ⟨S512x16x64x64, .f32⟩
  | 15 => ⟨S512x16x64x64, .f32⟩
  | 16 => ⟨S_, .f32⟩
  | 17 => ⟨S512x16x64x64, .f32⟩
  | 18 => ⟨S512x16x64x64, .f32⟩
  | 19 => ⟨S_, .f32⟩
  | 20 => ⟨S512x16x64x64, .f32⟩
  | 21 => ⟨S512x16x64x64, .f32⟩
  | 22 => ⟨S512x16x64x64, .f32⟩
  | 23 => ⟨S512x16x64x64, .f32⟩
  | 24 => ⟨S_, .f32⟩
  | 25 => ⟨S512x16x64x64, .f32⟩
  | 26 => ⟨S512x16x64x64, .f32⟩
  | 27 => ⟨S512x16x64x64, .f32⟩
  | 28 => ⟨S_, .f32⟩
  | 29 => ⟨S512x16x64x64, .f32⟩
  | 30 => ⟨S512x16x64x64, .f32⟩
  | 31 => ⟨S512x16x64x64, .f32⟩
  | 32 => ⟨S512x16x64x64, .f32⟩
  | 33 => ⟨S_, .f32⟩
  | 34 => ⟨S512x16x64x64, .f32⟩
  | 35 => ⟨S512x16x64x64, .f32⟩
  | 36 => ⟨S512x16x64x64, .f32⟩
  | 37 => ⟨S_, .f32⟩
  | 38 => ⟨S512x16x64x64, .f32⟩
  | 39 => ⟨S512x16x64x64, .f32⟩
  | 40 => ⟨S512x16x64x64, .f32⟩
  | 41 => ⟨S512x16x64x64, .f32⟩
  | 42 => ⟨S_, .f32⟩
  | 43 => ⟨S512x16x64x64, .f32⟩
  | 44 => ⟨S512x16x64x64, .f32⟩
  | 45 => ⟨S512x16x64x64, .f32⟩
  | 46 => ⟨S_, .f32⟩
  | 47 => ⟨S512x16x64x64, .f32⟩
  | 48 => ⟨S512x16x64x64, .f32⟩
  | 49 => ⟨S512x16x64x64, .f32⟩
  | 50 => ⟨S512x16x64x64, .f32⟩
  | 51 => ⟨S_, .f32⟩
  | 52 => ⟨S512x16x64x64, .f32⟩
  | 53 => ⟨S512x16x64x64, .f32⟩
  | 54 => ⟨S512x16x64x64, .f32⟩
  | 55 => ⟨S_, .f32⟩
  | 56 => ⟨S512x16x64x64, .f32⟩
  | 57 => ⟨S512x16x64x64, .f32⟩
  | 58 => ⟨S512x16x64x64, .f32⟩
  | 59 => ⟨S512x16x64x64, .f32⟩
  | 60 => ⟨S_, .f32⟩
  | 61 => ⟨S512x16x64x64, .f32⟩
  | 62 => ⟨S512x16x64x64, .f32⟩
  | 63 => ⟨S512x16x64x64, .f32⟩
  | 64 => ⟨S_, .f32⟩
  | 65 => ⟨S512x16x64x64, .f32⟩
  | 66 => ⟨S512x16x64x64, .f32⟩
  | 67 => ⟨S512x16x64x64, .f32⟩
  | 68 => ⟨S512x16x64x64, .f32⟩
  | 69 => ⟨S_, .f32⟩
  | 70 => ⟨S512x16x64x64, .f32⟩
  | 71 => ⟨S512x16x64x64, .f32⟩
  | 72 => ⟨S512x16x64x64, .f32⟩
  | 73 => ⟨S_, .f32⟩
  | 74 => ⟨S512x16x64x64, .f32⟩
  | 75 => ⟨S512x16x64x64, .f32⟩
  | 76 => ⟨S512x16x64x64, .f32⟩
  | 77 => ⟨S512x16x64x64, .f32⟩
  | 78 => ⟨S_, .f32⟩
  | 79 => ⟨S512x16x64x64, .f32⟩
  | 80 => ⟨S512x16x64x64, .f32⟩
  | 81 => ⟨S512x16x64x64, .f32⟩
  | 82 => ⟨S_, .f32⟩
  | 83 => ⟨S512x16x64x64, .f32⟩
  | 84 => ⟨S512x16x64x64, .f32⟩
  | 85 => ⟨S512x16x64x64, .f32⟩
  | 86 => ⟨S512x16x64x64, .f32⟩
  | 87 => ⟨S_, .f32⟩
  | 88 => ⟨S512x16x64x64, .f32⟩
  | 89 => ⟨S512x16x64x64, .f32⟩
  | 90 => ⟨S512x16x64x64, .f32⟩
  | 91 => ⟨S_, .f32⟩
  | 92 => ⟨S512x16x64x64, .f32⟩
  | 93 => ⟨S512x16x64x64, .f32⟩
  | 94 => ⟨S512x16x64x64, .f32⟩
  | 95 => ⟨S512x16x64x64, .f32⟩
  | 96 => ⟨S_, .f32⟩
  | 97 => ⟨S512x16x64x64, .f32⟩
  | 98 => ⟨S512x16x64x64, .f32⟩
  | 99 => ⟨S512x16x64x64, .f32⟩
  | 100 => ⟨S_, .f32⟩
  | 101 => ⟨S512x16x64x64, .f32⟩
  | 102 => ⟨S512x16x64x64, .f32⟩
  | 103 => ⟨S512x16x64x64, .f32⟩
  | 104 => ⟨S512x16x64x64, .f32⟩
  | 105 => ⟨S_, .f32⟩
  | 106 => ⟨S512x16x64x64, .f32⟩
  | 107 => ⟨S512x16x64x64, .f32⟩
  | 108 => ⟨S512x16x64x64, .f32⟩
  | 109 => ⟨S_, .f32⟩
  | 110 => ⟨S512x16x64x64, .f32⟩
  | 111 => ⟨S512x16x64x64, .f32⟩
  | 112 => ⟨S512x16x64x64, .f32⟩
  | 113 => ⟨S_, .f32⟩
  | 114 => ⟨S512x16x64x64, .f32⟩
  | 115 => ⟨S512x16x64x64, .f32⟩
  | _ => ⟨S512x16x64x64, .f32⟩

abbrev hbmTy (i : Nat) : BufTy := match i / 128 with
  | 0 => hbmTy0_0 i
  | 1 => hbmTy0_1 i
  | 2 => hbmTy0_2 i
  | _ => ⟨S512x16x64x64, .f32⟩

abbrev bufTy : (tb : Table) → Fin (tcTables nBuf tb) → BufTy
  | .hbm, ⟨i, _⟩ => hbmTy i
  | _, _ => ⟨S512x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call1_call0_cst : Ref sig .tc := ⟨.hbm, 4, rfl⟩
abbrev main_call1_call0_v0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_c_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_cst_11 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_cst_14 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_15 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_16 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_18 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_19 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_20 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_21 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_22 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_23 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_24 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_25 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_26 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_27 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_28 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_29 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_30 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_31 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_32 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_33 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_34 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_35 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_36 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_37 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_cst_38 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_39 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_40 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_41 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_cst_42 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_cst_43 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_cst_44 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_cst_45 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_cst_46 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_cst_47 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_c_48 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_49 : Ref sig .tc := ⟨.hbm, 259, rfl⟩
abbrev main_v183 : Ref sig .tc := ⟨.hbm, 260, rfl⟩
abbrev main_v184 : Ref sig .tc := ⟨.hbm, 261, rfl⟩
abbrev main_cst_50 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_cst_51 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_cst_52 : Ref sig .tc := ⟨.hbm, 272, rfl⟩
abbrev main_v193 : Ref sig .tc := ⟨.hbm, 273, rfl⟩
abbrev main_v194 : Ref sig .tc := ⟨.hbm, 274, rfl⟩
abbrev main_cst_53 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_cst_54 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_cst_55 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_cst_56 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_cst_57 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_cst_58 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_cst_59 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_cst_60 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_cst_61 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_62 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_cst_63 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_cst_64 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_cst_65 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_cst_66 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_cst_67 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_cst_68 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_cst_69 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_cst_70 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_cst_71 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_cst_72 : Ref sig .tc := ⟨.hbm, 361, rfl⟩
abbrev main_v262 : Ref sig .tc := ⟨.hbm, 362, rfl⟩
abbrev main_v263 : Ref sig .tc := ⟨.hbm, 363, rfl⟩
abbrev main_v264 : Ref sig .tc := ⟨.hbm, 364, rfl⟩
abbrev main_cst_73 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_cst_74 : Ref sig .tc := ⟨.hbm, 369, rfl⟩
abbrev main_v268 : Ref sig .tc := ⟨.hbm, 370, rfl⟩
abbrev main_v269 : Ref sig .tc := ⟨.hbm, 371, rfl⟩

abbrev nD : Nat := 1
abbrev τ : Topo := Topo.v7x

variable {F : FTy → Type} [FloatOps F]
-- ==== Proof.Names.lean ====
/- The named constants: each name of the idealized kernel's table denotes the rational that the table gives it. -/
module

public import proofs.«01_k».proof.Defs

@[expose] public section

noncomputable section

namespace Cert.Names

open Idealize.ShloMosaic

/-- Every constant that the idealization names reads, in the table, as the number stated of it. -/
theorem preserves : Cert.preserves_Kernel_KernelIdeal := by
  unfold Cert.preserves_Kernel_KernelIdeal
  iterate 33 refine And.intro (IdealRules.named_const.statement _ _ _ _ _ rfl) ?_
  exact IdealRules.named_const.statement _ _ _ _ _ rfl

end Cert.Names

end
-- ==== Proof.Cheb.lean ====
/- Chebyshev polynomials of an element of a real algebra: the series that the reference sums term by term, the grouping that the
   kernel sums, and their equality. -/
module

public import Mathlib.Analysis.RCLike.Basic
public import Mathlib.Data.Matrix.Block
public import Mathlib.LinearAlgebra.Matrix.Reindex
public import Mathlib.Tactic.Module

@[expose] public section

noncomputable section

namespace Cert.Cheb

variable {A : Type} [Ring A] [Algebra ℝ A]

/-- The `n`-th Chebyshev polynomial at `y`. -/
def t (y : A) : ℕ → A
  | 0 => 1
  | 1 => y
  | n + 2 => (2 : ℝ) • (y * t y (n + 1)) - t y n

theorem t_zero (y : A) : t y 0 = 1 := by rw [t]

theorem t_one (y : A) : t y 1 = y := by rw [t]

theorem t_two (y : A) (n : ℕ) : t y (n + 2) = (2 : ℝ) • (y * t y (n + 1)) - t y n := by rw [t]

/-- The product of two of them, the smaller index first. -/
theorem t_mul (y : A) (i d : ℕ) : t y i * t y (i + d) = (1 / 2 : ℝ) • (t y (i + (i + d)) + t y d) := by
  suffices h : ∀ i : ℕ, (∀ d, t y i * t y (i + d) = (1 / 2 : ℝ) • (t y (i + (i + d)) + t y d)) ∧
      ∀ d, t y (i + 1) * t y (i + 1 + d) = (1 / 2 : ℝ) • (t y (i + 1 + (i + 1 + d)) + t y d) from (h i).1 d
  intro i
  induction i with
  | zero =>
    refine ⟨fun d => ?_, fun d => ?_⟩
    · simp only [t_zero, one_mul, Nat.zero_add]; module
    · have e1 : 0 + 1 + (0 + 1 + d) = d + 2 := by omega
      have e2 : 0 + 1 + d = d + 1 := by omega
      rw [e1, e2, t_two]
      simp only [Nat.zero_add, t_one]; module
  | succ i ih =>
    refine ⟨ih.2, fun d => ?_⟩
    have h1 := ih.2 (d + 1)
    have h0 := ih.1 (d + 2)
    have e0 : i + (d + 2) = i + 1 + 1 + d := by omega
    have e1 : i + 1 + (d + 1) = i + 1 + 1 + d := by omega
    have e2 : i + 1 + (i + 1 + 1 + d) = i + (i + 1 + 1 + d) + 1 := by omega
    have e3 : i + 1 + 1 + (i + 1 + 1 + d) = i + (i + 1 + 1 + d) + 2 := by omega
    rw [e1, e2] at h1
    rw [e0] at h0
    rw [e3, show t y (i + 1 + 1) = (2 : ℝ) • (y * t y (i + 1)) - t y i from t_two y i, sub_mul, smul_mul_assoc, mul_assoc, h1, h0,
      t_two y (i + (i + 1 + 1 + d)), t_two y d, mul_smul_comm, mul_add]
    module

/-- A homomorphism of algebras carries `t` over. -/
theorem map_t {B : Type} [Ring B] [Algebra ℝ B] (f : A →ₐ[ℝ] B) (y : A) (n : ℕ) : f (t y n) = t (f y) n := by
  suffices h : ∀ n : ℕ, f (t y n) = t (f y) n ∧ f (t y (n + 1)) = t (f y) (n + 1) from (h n).1
  intro n
  induction n with
  | zero => simp [t_zero, t_one]
  | succ n ih =>
    refine ⟨ih.2, ?_⟩
    rw [t_two, t_two, map_sub, map_smul, map_mul, ih.1, ih.2]

/-- The log series of `y`, its coefficients in thousandths. -/
def logSeries (y : A) : A := (1 / 1000 : ℝ) • (
    (2659561 / 2048 : ℝ) • t y 0 + (15649743 / 16384 : ℝ) • t y 1 +
    (-1868549 / 8192 : ℝ) • t y 2 + (4759491 / 65536 : ℝ) • t y 3 +
    (-13638575 / 524288 : ℝ) • t y 4 + (10421885 / 1048576 : ℝ) • t y 5 +
    (-16591371 / 4194304 : ℝ) • t y 6 + (13583845 / 8388608 : ℝ) • t y 7 +
    (-11353189 / 16777216 : ℝ) • t y 8 + (9639437 / 33554432 : ℝ) • t y 9 +
    (-16573215 / 134217728 : ℝ) • t y 10 + (1798821 / 33554432 : ℝ) • t y 11 +
    (-12596781 / 536870912 : ℝ) • t y 12 + (11091817 / 1073741824 : ℝ) • t y 13 +
    (-9772617 / 2147483648 : ℝ) • t y 14 + (4212237 / 2147483648 : ℝ) • t y 15 +
    (-12544127 / 17179869184 : ℝ) • t y 16 + (3898709 / 9444732965739290427392 : ℝ) • t y 17)

/-- The same by grouping the terms 6 at a time. -/
def logGrouped (y : A) : A :=
  let z := y + y
  let t2 := z * y - 1
  let t3 := z * t2 - y
  let t4 := z * t3 - t2
  let t5 := z * t4 - t3
  let u := z * t5 - t4
  let v := (u + u) * u - 1
  ((2659561 / 2048000 : ℝ) • 1 + (1025575086793 / 1073741824000 : ℝ) • y + (-489573510233 / 2147483648000 : ℝ) • t2 + (155346289357 / 2147483648000 : ℝ) • t3 + (-435295704191 / 17179869184000 : ℝ) • t4 + (78577944984931683499349 / 9444732965739290427392000 : ℝ) • t5)
    + ((-16591371 / 4194304000 : ℝ) • 1 + (15294049820064639910571 / 4722366482869645213696000 : ℝ) • y + (-11613121409 / 8589934592000 : ℝ) • t2 + (612711731 / 1073741824000 : ℝ) • t3 + (-255398823 / 1073741824000 : ℝ) • t4 + (9294091 / 107374182400 : ℝ) • t5) * u
    + ((-12596781 / 536870912000 : ℝ) • 1 + (11091817 / 536870912000 : ℝ) • y + (-9772617 / 1073741824000 : ℝ) • t2 + (4212237 / 1073741824000 : ℝ) • t3 + (-12544127 / 8589934592000 : ℝ) • t4 + (3898709 / 4722366482869645213696000 : ℝ) • t5) * v

/-- The exp series of `y`, its coefficients in thousandths. -/
def expSeries (y : A) : A := (1 / 1000 : ℝ) • (
    (15906757 / 4096 : ℝ) • t y 0 + (988247 / 256 : ℝ) • t y 1 +
    (2157233 / 2048 : ℝ) • t y 2 + (6440909 / 32768 : ℝ) • t y 3 +
    (14575743 / 524288 : ℝ) • t y 4 + (13264631 / 4194304 : ℝ) • t y 5 +
    (5045291 / 16777216 : ℝ) • t y 6 + (3296105 / 134217728 : ℝ) • t y 7 +
    (3773257 / 2147483648 : ℝ) • t y 8 + (7686015 / 68719476736 : ℝ) • t y 9 +
    (3516231 / 549755813888 : ℝ) • t y 10 + (12803827 / 295147905179352825856 : ℝ) • t y 11)

/-- The same by grouping the terms 4 at a time. -/
def expGrouped (y : A) : A :=
  let z := y + y
  let t2 := z * y - 1
  let t3 := z * t2 - y
  let u := z * t3 - t2
  let v := (u + u) * u - 1
  ((15906757 / 4096000 : ℝ) • 1 + (265278854165887 / 68719476736000 : ℝ) • y + (578912503473991 / 549755813888000 : ℝ) • t2 + (57081135319204449443571 / 295147905179352825856000 : ℝ) • t3)
    + ((14575743 / 524288000 : ℝ) • 1 + (933415425450098598157 / 147573952589676412928000 : ℝ) • y + (165320579257 / 274877906944000 : ℝ) • t2 + (335983949 / 6871947673600 : ℝ) • t3) * u
    + ((3773257 / 2147483648000 : ℝ) • 1 + (1537203 / 6871947673600 : ℝ) • y + (3516231 / 274877906944000 : ℝ) • t2 + (12803827 / 147573952589676412928000 : ℝ) • t3) * v

theorem double (y x : A) : (y + y) * x = (2 : ℝ) • (y * x) := by rw [add_mul, two_smul]

theorem step (y : A) (n : ℕ) : (y + y) * t y (n + 1) - t y n = t y (n + 2) := by rw [double, t_two]

theorem square (y : A) (n : ℕ) : (t y n + t y n) * t y n - 1 = t y (n + n) := by
  rw [double, show t y n * t y n = _ from t_mul y n 0, t_zero, smul_smul]; norm_num

theorem logGrouped_eq (y : A) : logGrouped y = logSeries y := by
  have h2 : (y + y) * y - 1 = t y 2 := by have := step y 0; rwa [t_one, t_zero] at this
  have h3 : (y + y) * t y 2 - y = t y 3 := by have := step y 1; rwa [t_one] at this
  have p6_1 : y * t y 6 = (1 / 2 : ℝ) • (t y 7 + t y 5) := by
    have := t_mul y 1 5; rwa [t_one] at this
  have p6_2 : t y 2 * t y 6 = (1 / 2 : ℝ) • (t y 8 + t y 4) := t_mul y 2 4
  have p6_3 : t y 3 * t y 6 = (1 / 2 : ℝ) • (t y 9 + t y 3) := t_mul y 3 3
  have p6_4 : t y 4 * t y 6 = (1 / 2 : ℝ) • (t y 10 + t y 2) := t_mul y 4 2
  have p6_5 : t y 5 * t y 6 = (1 / 2 : ℝ) • (t y 11 + t y 1) := t_mul y 5 1
  have p12_1 : y * t y 12 = (1 / 2 : ℝ) • (t y 13 + t y 11) := by
    have := t_mul y 1 11; rwa [t_one] at this
  have p12_2 : t y 2 * t y 12 = (1 / 2 : ℝ) • (t y 14 + t y 10) := t_mul y 2 10
  have p12_3 : t y 3 * t y 12 = (1 / 2 : ℝ) • (t y 15 + t y 9) := t_mul y 3 9
  have p12_4 : t y 4 * t y 12 = (1 / 2 : ℝ) • (t y 16 + t y 8) := t_mul y 4 8
  have p12_5 : t y 5 * t y 12 = (1 / 2 : ℝ) • (t y 17 + t y 7) := t_mul y 5 7
  unfold logGrouped logSeries
  dsimp only
  rw [h2, h3, step y 2, step y 3, step y 4, square y 6]
  simp only [add_mul, smul_mul_assoc, one_mul, Nat.reduceAdd, t_zero, t_one, p6_1, p6_2, p6_3, p6_4, p6_5, p12_1, p12_2, p12_3, p12_4, p12_5]
  module

theorem expGrouped_eq (y : A) : expGrouped y = expSeries y := by
  have h2 : (y + y) * y - 1 = t y 2 := by have := step y 0; rwa [t_one, t_zero] at this
  have h3 : (y + y) * t y 2 - y = t y 3 := by have := step y 1; rwa [t_one] at this
  have p4_1 : y * t y 4 = (1 / 2 : ℝ) • (t y 5 + t y 3) := by
    have := t_mul y 1 3; rwa [t_one] at this
  have p4_2 : t y 2 * t y 4 = (1 / 2 : ℝ) • (t y 6 + t y 2) := t_mul y 2 2
  have p4_3 : t y 3 * t y 4 = (1 / 2 : ℝ) • (t y 7 + t y 1) := t_mul y 3 1
  have p8_1 : y * t y 8 = (1 / 2 : ℝ) • (t y 9 + t y 7) := by
    have := t_mul y 1 7; rwa [t_one] at this
  have p8_2 : t y 2 * t y 8 = (1 / 2 : ℝ) • (t y 10 + t y 6) := t_mul y 2 6
  have p8_3 : t y 3 * t y 8 = (1 / 2 : ℝ) • (t y 11 + t y 5) := t_mul y 3 5
  unfold expGrouped expSeries
  dsimp only
  rw [h2, h3, step y 2, square y 4]
  simp only [add_mul, smul_mul_assoc, one_mul, Nat.reduceAdd, t_zero, t_one, p4_1, p4_2, p4_3, p8_1, p8_2, p8_3]
  module

theorem map_logSeries {B : Type} [Ring B] [Algebra ℝ B] (f : A →ₐ[ℝ] B) (y : A) : f (logSeries y) = logSeries (f y) := by
  simp only [logSeries, map_smul, map_add, map_t]

theorem map_expSeries {B : Type} [Ring B] [Algebra ℝ B] (f : A →ₐ[ℝ] B) (y : A) : f (expSeries y) = expSeries (f y) := by
  simp only [expSeries, map_smul, map_add, map_t]

/-! ## Four matrices on the diagonal of one -/

/-- A square matrix of reals. -/
abbrev Mat (n : ℕ) : Type := Matrix (Fin n) (Fin n) ℝ

/-- Row `64 r + i` of the large matrix is row `i` of member `r`. -/
def place : Fin 64 × Fin 4 ≃ Fin 256 := (Equiv.prodComm _ _).trans finProdFinEquiv

/-- Four matrices placed along the diagonal, a homomorphism of algebras. -/
def diag4 : (Fin 4 → Mat 64) →ₐ[ℝ] Mat 256 :=
  (Matrix.reindexAlgEquiv ℝ ℝ place).toAlgHom.comp
    { Matrix.blockDiagonalRingHom (Fin 64) (Fin 4) ℝ with
      commutes' := fun r => by
        ext ⟨i, k⟩ ⟨j, k'⟩
        change Matrix.blockDiagonal (fun _ : Fin 4 => algebraMap ℝ (Mat 64) r) (i, k) (j, k') = _
        rw [Matrix.blockDiagonal_apply, Matrix.algebraMap_matrix_apply, Matrix.algebraMap_matrix_apply]
        simp only [Prod.mk.injEq]
        split_ifs <;> simp_all }

theorem diag4_apply (M : Fin 4 → Mat 64) (p q : Fin 256) :
    diag4 M p q = if (p : ℕ) / 64 = (q : ℕ) / 64 then
      M ⟨(p : ℕ) / 64, by omega⟩ ⟨(p : ℕ) % 64, by omega⟩ ⟨(q : ℕ) % 64, by omega⟩ else 0 := by
  obtain ⟨⟨i, k⟩, rfl⟩ := place.surjective p
  obtain ⟨⟨j, k'⟩, rfl⟩ := place.surjective q
  change Matrix.blockDiagonal M (place.symm (place (i, k))) (place.symm (place (j, k'))) = _
  rw [Equiv.symm_apply_apply, Equiv.symm_apply_apply, Matrix.blockDiagonal_apply]
  have hv : ∀ (i : Fin 64) (k : Fin 4), ((place (i, k) : Fin 256) : ℕ) = (i : ℕ) + 64 * (k : ℕ) := fun i k => rfl
  have d : ∀ (i : Fin 64) (k : Fin 4), ((place (i, k) : Fin 256) : ℕ) / 64 = (k : ℕ) := fun i k => by rw [hv]; omega
  have e : ∀ (i : Fin 64) (k : Fin 4), ((place (i, k) : Fin 256) : ℕ) % 64 = (i : ℕ) := fun i k => by rw [hv]; omega
  simp only [d, e, Fin.ext_iff, Fin.eta]

/-- The grouped series of four matrices on the diagonal has their series on its diagonal. -/
theorem logGrouped_diag4 (M : Fin 4 → Mat 64) : logGrouped (diag4 M) = diag4 fun r => logSeries (M r) := by
  rw [logGrouped_eq, ← map_logSeries]
  refine congrArg diag4 (funext fun r => ?_)
  exact map_logSeries (Pi.evalAlgHom ℝ (fun _ : Fin 4 => Mat 64) r) M

theorem expGrouped_diag4 (M : Fin 4 → Mat 64) : expGrouped (diag4 M) = diag4 fun r => expSeries (M r) := by
  rw [expGrouped_eq, ← map_expSeries]
  refine congrArg diag4 (funext fun r => ?_)
  exact map_expSeries (Pi.evalAlgHom ℝ (fun _ : Fin 4 => Mat 64) r) M

end Cert.Cheb

end
-- ==== Proof.Lift.lean ====
/- Vectors of extended reals that hold real matrices: the kernel's operations on them are the matrix operations. -/
module

public import proofs.«01_k».proof.Proof.Cheb
public import proofs.«01_k».proof.Proof.Gen.KernelIdeal.Skeleton
public import Idealize.ShloMosaic.Lib.Pointwise

@[expose] public section

set_option maxRecDepth 16384

noncomputable section

namespace Cert.Lift

open Idealize.ShloMosaic Idealize.ShloMosaic.TcCoe Idealize.SL.Sem
open Cert.KernelIdeal Cert.KernelIdeal.Gen Cert.Cheb

/-- A finite sum of reals, as an extended real. -/
theorem coe_sum {ι : Type} (s : Finset ι) (f : ι → ℝ) : ((∑ k ∈ s, f k : ℝ) : EReal) = ∑ k ∈ s, ((f k : ℝ) : EReal) :=
  map_sum (⟨⟨fun x : ℝ => (x : EReal), EReal.coe_zero⟩, EReal.coe_add⟩ : ℝ →+ EReal) f s

/-- The vector holding the real matrix `A`. -/
def up {n m : ℕ} (A : Matrix (Fin n) (Fin m) ℝ) : FVec Ideal (⟨2, ![n, m]⟩ : Shape) .f32 := fun i => ((A (i 0) (i 1) : ℝ) : EReal)

theorem up_ix2 {n m : ℕ} (A : Matrix (Fin n) (Fin m) ℝ) (a : Fin n) (b : Fin m) : up A (ix2 a b) = ((A a b : ℝ) : EReal) := rfl

theorem add_up {n m : ℕ} (A B : Matrix (Fin n) (Fin m) ℝ) : addf (up A) (up B) = up (A + B) := by
  funext i; exact (EReal.coe_add _ _).symm

theorem sub_up {n m : ℕ} (A B : Matrix (Fin n) (Fin m) ℝ) : subf (up A) (up B) = up (A - B) := by
  funext i; exact (EReal.coe_sub _ _).symm

theorem scale_up {n m : ℕ} (r : ℝ) (A : Matrix (Fin n) (Fin m) ℝ) :
    mulf (broadcast (⟨2, ![n, m]⟩ : Shape) (r : EReal) : FVec Ideal _ .f32) (up A) = up (r • A) := by
  funext i; exact (EReal.coe_mul _ _).symm

theorem up_scale {n m : ℕ} (r : ℝ) (A : Matrix (Fin n) (Fin m) ℝ) :
    mulf (up A) (broadcast (⟨2, ![n, m]⟩ : Shape) (r : EReal) : FVec Ideal _ .f32) = up (r • A) := by
  funext i; exact (EReal.coe_mul _ _).symm.trans (congrArg _ (mul_comm _ _))

/-- The product of two large matrices, as the kernel forms it. -/
def mm (a b : FVec Ideal S256x256 .f32) : FVec Ideal S256x256 .f32 :=
  matmul dot_S256x256_S256x256_S256x256_1_0_0_1_n_n none a b (constant S256x256 .f32 0x00000000#32)

theorem mm_up (A B : Mat 256) : mm (up A) (up B) = up (A * B) := by
  funext i
  idx_vars i
  pointwise [mm]
  rw [up_ix2, Matrix.mul_apply, coe_sum]
  exact Finset.sum_congr rfl fun k _ => (EReal.coe_mul _ _).symm

/-- The kernel's unit matrices. -/
theorem eye256 : (k1_pay4 (F := Ideal)) = up (1 : Mat 256) := by
  funext i
  idx_vars i
  pointwise [k1_pay4]
  rw [up_ix2, Matrix.one_apply]
  by_cases h : i0 = i1
  · subst h
    simp [Scalar.select, IntOp.cmpi]
  · have hne : ¬ (BitVec.ofNat 32 (i0 : ℕ) = BitVec.ofNat 32 (i1 : ℕ)) := by
      intro e
      have e' := congrArg BitVec.toNat e
      simp only [BitVec.toNat_ofNat] at e'
      exact h (Fin.ext (by omega))
    simp [Scalar.select, IntOp.cmpi, h, beq_eq_false_iff_ne.2 hne]

theorem eye64 : (k1_pay5 (F := Ideal)) = up (1 : Mat 64) := by
  funext i
  idx_vars i
  unfold k1_pay5
  rw [eye256]
  pointwise []
  rw [up_ix2, up_ix2, Matrix.one_apply, Matrix.one_apply]
  simp only [Fin.ext_iff]

end Cert.Lift

end
-- ==== Proof.Slab.lean ====
/- The kernel's two matrix functions and its two scalings, as operations on vectors, and the real matrices they hold. -/
module

public import proofs.«01_k».proof.Proof.Lift

@[expose] public section

set_option maxRecDepth 16384

noncomputable section

namespace Cert.Slab

open Idealize.ShloMosaic Idealize.ShloMosaic.TcCoe Idealize.SL.Sem
open Cert.KernelIdeal Cert.KernelIdeal.Gen Cert.Cheb Cert.Lift

/-! ## The named constants -/

theorem named_exp_0_0 : Named.named (F := Ideal) κ (φ := .f32) "exp_0_0" 0x40788B07#32 = ((15906757 / 4096000 : ℝ) : EReal) :=
  IdealRules.named_const.ideal_named_scalar _ _ _ _ rfl

theorem named_exp_0_1 : Named.named (F := Ideal) κ (φ := .f32) "exp_0_1" 0x40770F68#32 = ((265278854165887 / 68719476736000 : ℝ) : EReal) :=
  IdealRules.named_const.ideal_named_scalar _ _ _ _ rfl

theorem named_exp_0_2 : Named.named (F := Ideal) κ (φ := .f32) "exp_0_2" 0x3F86C9E0#32 = ((578912503473991 / 549755813888000 : ℝ) : EReal) :=
  IdealRules.named_const.ideal_named_scalar _ _ _ _ rfl

theorem named_exp_0_3 : Named.named (F := Ideal) κ (φ := .f32) "exp_0_3" 0x3E460A3C#32 = ((57081135319204449443571 / 295147905179352825856000 : ℝ) : EReal) :=
  IdealRules.named_const.ideal_named_scalar _ _ _ _ rfl

theorem named_exp_1_0 : Named.named (F := Ideal) κ (φ := .f32) "exp_1_0" 0x3CE3BEF9#32 = ((14575743 / 524288000 : ℝ) : EReal) :=
  IdealRules.named_const.ideal_named_scalar _ _ _ _ rfl

theorem named_exp_1_1 : Named.named (F := Ideal) κ (φ := .f32) "exp_1_1" 0x3BCF4286#32 = ((933415425450098598157 / 147573952589676412928000 : ℝ) : EReal) :=
  IdealRules.named_const.ideal_named_scalar _ _ _ _ rfl

theorem named_exp_1_2 : Named.named (F := Ideal) κ (φ := .f32) "exp_1_2" 0x3A1DA978#32 = ((165320579257 / 274877906944000 : ℝ) : EReal) :=
  IdealRules.named_const.ideal_named_scalar _ _ _ _ rfl

theorem named_exp_1_3 : Named.named (F := Ideal) κ (φ := .f32) "exp_1_3" 0x384D117E#32 = ((335983949 / 6871947673600 : ℝ) : EReal) :=
  IdealRules.named_const.ideal_named_scalar _ _ _ _ rfl

theorem named_exp_2_0 : Named.named (F := Ideal) κ (φ := .f32) "exp_2_0" 0x35EBD41D#32 = ((3773257 / 2147483648000 : ℝ) : EReal) :=
  IdealRules.named_const.ideal_named_scalar _ _ _ _ rfl

theorem named_exp_2_1 : Named.named (F := Ideal) κ (φ := .f32) "exp_2_1" 0x3470301F#32 = ((1537203 / 6871947673600 : ℝ) : EReal) :=
  IdealRules.named_const.ideal_named_scalar _ _ _ _ rfl

theorem named_exp_2_2 : Named.named (F := Ideal) κ (φ := .f32) "exp_2_2" 0x325BC3B2#32 = ((3516231 / 274877906944000 : ℝ) : EReal) :=
  IdealRules.named_const.ideal_named_scalar _ _ _ _ rfl

theorem named_exp_2_3 : Named.named (F := Ideal) κ (φ := .f32) "exp_2_3" 0x24C80F4F#32 = ((12803827 / 147573952589676412928000 : ℝ) : EReal) :=
  IdealRules.named_const.ideal_named_scalar _ _ _ _ rfl

theorem named_exp_scale : Named.named (F := Ideal) κ (φ := .f32) "exp_scale" 0x3F5E9BD3#32 = ((20 / 23 : ℝ) : EReal) :=
  IdealRules.named_const.ideal_named_scalar _ _ _ _ rfl

theorem named_exp_shift : Named.named (F := Ideal) κ (φ := .f32) "exp_shift" 0x3F69BD38#32 = ((21 / 23 : ℝ) : EReal) :=
  IdealRules.named_const.ideal_named_scalar _ _ _ _ rfl

theorem named_log_0_0 : Named.named (F := Ideal) κ (φ := .f32) "log_0_0" 0x3FA638FA#32 = ((2659561 / 2048000 : ℝ) : EReal) :=
  IdealRules.named_const.ideal_named_scalar _ _ _ _ rfl

theorem named_log_0_1 : Named.named (F := Ideal) κ (φ := .f32) "log_0_1" 0x3F748423#32 = ((1025575086793 / 1073741824000 : ℝ) : EReal) :=
  IdealRules.named_const.ideal_named_scalar _ _ _ _ rfl

theorem named_log_0_2 : Named.named (F := Ideal) κ (φ := .f32) "log_0_2" 0xBE697264#32 = ((-489573510233 / 2147483648000 : ℝ) : EReal) :=
  IdealRules.named_const.ideal_named_scalar _ _ _ _ rfl

theorem named_log_0_3 : Named.named (F := Ideal) κ (φ := .f32) "log_0_3" 0x3D942657#32 = ((155346289357 / 2147483648000 : ℝ) : EReal) :=
  IdealRules.named_const.ideal_named_scalar _ _ _ _ rfl

theorem named_log_0_4 : Named.named (F := Ideal) κ (φ := .f32) "log_0_4" 0xBCCF90AF#32 = ((-435295704191 / 17179869184000 : ℝ) : EReal) :=
  IdealRules.named_const.ideal_named_scalar _ _ _ _ rfl

theorem named_log_0_5 : Named.named (F := Ideal) κ (φ := .f32) "log_0_5" 0x3C084F9E#32 = ((78577944984931683499349 / 9444732965739290427392000 : ℝ) : EReal) :=
  IdealRules.named_const.ideal_named_scalar _ _ _ _ rfl

theorem named_log_1_0 : Named.named (F := Ideal) κ (φ := .f32) "log_1_0" 0xBB819EBE#32 = ((-16591371 / 4194304000 : ℝ) : EReal) :=
  IdealRules.named_const.ideal_named_scalar _ _ _ _ rfl

theorem named_log_1_1 : Named.named (F := Ideal) κ (φ := .f32) "log_1_1" 0x3B543F61#32 = ((15294049820064639910571 / 4722366482869645213696000 : ℝ) : EReal) :=
  IdealRules.named_const.ideal_named_scalar _ _ _ _ rfl

theorem named_log_1_2 : Named.named (F := Ideal) κ (φ := .f32) "log_1_2" 0xBAB133C1#32 = ((-11613121409 / 8589934592000 : ℝ) : EReal) :=
  IdealRules.named_const.ideal_named_scalar _ _ _ _ rfl

theorem named_log_1_3 : Named.named (F := Ideal) κ (φ := .f32) "log_1_3" 0x3A15967C#32 = ((612711731 / 1073741824000 : ℝ) : EReal) :=
  IdealRules.named_const.ideal_named_scalar _ _ _ _ rfl

theorem named_log_1_4 : Named.named (F := Ideal) κ (φ := .f32) "log_1_4" 0xB97969B5#32 = ((-255398823 / 1073741824000 : ℝ) : EReal) :=
  IdealRules.named_const.ideal_named_scalar _ _ _ _ rfl

theorem named_log_1_5 : Named.named (F := Ideal) κ (φ := .f32) "log_1_5" 0x38B58674#32 = ((9294091 / 107374182400 : ℝ) : EReal) :=
  IdealRules.named_const.ideal_named_scalar _ _ _ _ rfl

theorem named_log_2_0 : Named.named (F := Ideal) κ (φ := .f32) "log_2_0" 0xB7C4D320#32 = ((-12596781 / 536870912000 : ℝ) : EReal) :=
  IdealRules.named_const.ideal_named_scalar _ _ _ _ rfl

theorem named_log_2_1 : Named.named (F := Ideal) κ (φ := .f32) "log_2_1" 0x37AD4F45#32 = ((11091817 / 536870912000 : ℝ) : EReal) :=
  IdealRules.named_const.ideal_named_scalar _ _ _ _ rfl

theorem named_log_2_2 : Named.named (F := Ideal) κ (φ := .f32) "log_2_2" 0xB718B278#32 = ((-9772617 / 1073741824000 : ℝ) : EReal) :=
  IdealRules.named_const.ideal_named_scalar _ _ _ _ rfl

theorem named_log_2_3 : Named.named (F := Ideal) κ (φ := .f32) "log_2_3" 0x3683A1E5#32 = ((4212237 / 1073741824000 : ℝ) : EReal) :=
  IdealRules.named_const.ideal_named_scalar _ _ _ _ rfl

theorem named_log_2_4 : Named.named (F := Ideal) κ (φ := .f32) "log_2_4" 0xB5C40082#32 = ((-12544127 / 8589934592000 : ℝ) : EReal) :=
  IdealRules.named_const.ideal_named_scalar _ _ _ _ rfl

theorem named_log_2_5 : Named.named (F := Ideal) κ (φ := .f32) "log_2_5" 0x2173AB58#32 = ((3898709 / 4722366482869645213696000 : ℝ) : EReal) :=
  IdealRules.named_const.ideal_named_scalar _ _ _ _ rfl

theorem named_log_scale : Named.named (F := Ideal) κ (φ := .f32) "log_scale" 0x3E924925#32 = ((2 / 7 : ℝ) : EReal) :=
  IdealRules.named_const.ideal_named_scalar _ _ _ _ rfl

theorem named_log_shift : Named.named (F := Ideal) κ (φ := .f32) "log_shift" 0x3FA49249#32 = ((9 / 7 : ℝ) : EReal) :=
  IdealRules.named_const.ideal_named_scalar _ _ _ _ rfl

/-! ## The log polynomial -/

/-- The terms of group 0. -/
def logRow0 (e y t2 t3 t4 t5 : FVec Ideal S256x256 .f32) : FVec Ideal S256x256 .f32 :=
  addf
    (addf
    (addf
    (addf
    (addf (mulf (broadcast S256x256 (Named.named (F := Ideal) κ (φ := .f32) "log_0_0" 0x3FA638FA#32)) e) (mulf (broadcast S256x256 (Named.named (F := Ideal) κ (φ := .f32) "log_0_1" 0x3F748423#32)) y)) (mulf (broadcast S256x256 (Named.named (F := Ideal) κ (φ := .f32) "log_0_2" 0xBE697264#32)) t2)) (mulf (broadcast S256x256 (Named.named (F := Ideal) κ (φ := .f32) "log_0_3" 0x3D942657#32)) t3)) (mulf (broadcast S256x256 (Named.named (F := Ideal) κ (φ := .f32) "log_0_4" 0xBCCF90AF#32)) t4)) (mulf (broadcast S256x256 (Named.named (F := Ideal) κ (φ := .f32) "log_0_5" 0x3C084F9E#32)) t5)

/-- The terms of group 1. -/
def logRow1 (e y t2 t3 t4 t5 : FVec Ideal S256x256 .f32) : FVec Ideal S256x256 .f32 :=
  addf
    (addf
    (addf
    (addf
    (addf (mulf (broadcast S256x256 (Named.named (F := Ideal) κ (φ := .f32) "log_1_0" 0xBB819EBE#32)) e) (mulf (broadcast S256x256 (Named.named (F := Ideal) κ (φ := .f32) "log_1_1" 0x3B543F61#32)) y)) (mulf (broadcast S256x256 (Named.named (F := Ideal) κ (φ := .f32) "log_1_2" 0xBAB133C1#32)) t2)) (mulf (broadcast S256x256 (Named.named (F := Ideal) κ (φ := .f32) "log_1_3" 0x3A15967C#32)) t3)) (mulf (broadcast S256x256 (Named.named (F := Ideal) κ (φ := .f32) "log_1_4" 0xB97969B5#32)) t4)) (mulf (broadcast S256x256 (Named.named (F := Ideal) κ (φ := .f32) "log_1_5" 0x38B58674#32)) t5)

/-- The terms of group 2. -/
def logRow2 (e y t2 t3 t4 t5 : FVec Ideal S256x256 .f32) : FVec Ideal S256x256 .f32 :=
  addf
    (addf
    (addf
    (addf
    (addf (mulf (broadcast S256x256 (Named.named (F := Ideal) κ (φ := .f32) "log_2_0" 0xB7C4D320#32)) e) (mulf (broadcast S256x256 (Named.named (F := Ideal) κ (φ := .f32) "log_2_1" 0x37AD4F45#32)) y)) (mulf (broadcast S256x256 (Named.named (F := Ideal) κ (φ := .f32) "log_2_2" 0xB718B278#32)) t2)) (mulf (broadcast S256x256 (Named.named (F := Ideal) κ (φ := .f32) "log_2_3" 0x3683A1E5#32)) t3)) (mulf (broadcast S256x256 (Named.named (F := Ideal) κ (φ := .f32) "log_2_4" 0xB5C40082#32)) t4)) (mulf (broadcast S256x256 (Named.named (F := Ideal) κ (φ := .f32) "log_2_5" 0x2173AB58#32)) t5)

/-- The whole polynomial of `y`, `e` the unit matrix. -/
def logPoly (e y : FVec Ideal S256x256 .f32) : FVec Ideal S256x256 .f32 :=
  let z := addf y y
  let t2 := subf (mm z y) e
  let t3 := subf (mm z t2) y
  let t4 := subf (mm z t3) t2
  let t5 := subf (mm z t4) t3
  let u := subf (mm z t5) t4
  let v := subf (mm (addf u u) u) e
  addf (addf (logRow0 e y t2 t3 t4 t5) (mm (logRow1 e y t2 t3 t4 t5) u)) (mm (logRow2 e y t2 t3 t4 t5) v)

theorem logPoly_up (Y : Mat 256) : logPoly k1_pay4 (up Y) = up (logGrouped Y) := by
  rw [eye256]
  unfold logPoly logRow0 logRow1 logRow2 logGrouped
  simp only [add_up, sub_up, mm_up, scale_up, named_log_0_0, named_log_0_1, named_log_0_2, named_log_0_3, named_log_0_4, named_log_0_5, named_log_1_0, named_log_1_1, named_log_1_2, named_log_1_3, named_log_1_4, named_log_1_5, named_log_2_0, named_log_2_1, named_log_2_2, named_log_2_3, named_log_2_4, named_log_2_5]

/-! ## The exp polynomial -/

/-- The terms of group 0. -/
def expRow0 (e y t2 t3 : FVec Ideal S256x256 .f32) : FVec Ideal S256x256 .f32 :=
  addf
    (addf
    (addf (mulf (broadcast S256x256 (Named.named (F := Ideal) κ (φ := .f32) "exp_0_0" 0x40788B07#32)) e) (mulf (broadcast S256x256 (Named.named (F := Ideal) κ (φ := .f32) "exp_0_1" 0x40770F68#32)) y)) (mulf (broadcast S256x256 (Named.named (F := Ideal) κ (φ := .f32) "exp_0_2" 0x3F86C9E0#32)) t2)) (mulf (broadcast S256x256 (Named.named (F := Ideal) κ (φ := .f32) "exp_0_3" 0x3E460A3C#32)) t3)

/-- The terms of group 1. -/
def expRow1 (e y t2 t3 : FVec Ideal S256x256 .f32) : FVec Ideal S256x256 .f32 :=
  addf
    (addf
    (addf (mulf (broadcast S256x256 (Named.named (F := Ideal) κ (φ := .f32) "exp_1_0" 0x3CE3BEF9#32)) e) (mulf (broadcast S256x256 (Named.named (F := Ideal) κ (φ := .f32) "exp_1_1" 0x3BCF4286#32)) y)) (mulf (broadcast S256x256 (Named.named (F := Ideal) κ (φ := .f32) "exp_1_2" 0x3A1DA978#32)) t2)) (mulf (broadcast S256x256 (Named.named (F := Ideal) κ (φ := .f32) "exp_1_3" 0x384D117E#32)) t3)

/-- The terms of group 2. -/
def expRow2 (e y t2 t3 : FVec Ideal S256x256 .f32) : FVec Ideal S256x256 .f32 :=
  addf
    (addf
    (addf (mulf (broadcast S256x256 (Named.named (F := Ideal) κ (φ := .f32) "exp_2_0" 0x35EBD41D#32)) e) (mulf (broadcast S256x256 (Named.named (F := Ideal) κ (φ := .f32) "exp_2_1" 0x3470301F#32)) y)) (mulf (broadcast S256x256 (Named.named (F := Ideal) κ (φ := .f32) "exp_2_2" 0x325BC3B2#32)) t2)) (mulf (broadcast S256x256 (Named.named (F := Ideal) κ (φ := .f32) "exp_2_3" 0x24C80F4F#32)) t3)

/-- The whole polynomial of `y`, `e` the unit matrix. -/
def expPoly (e y : FVec Ideal S256x256 .f32) : FVec Ideal S256x256 .f32 :=
  let z := addf y y
  let t2 := subf (mm z y) e
  let t3 := subf (mm z t2) y
  let u := subf (mm z t3) t2
  let v := subf (mm (addf u u) u) e
  addf (addf (expRow0 e y t2 t3) (mm (expRow1 e y t2 t3) u)) (mm (expRow2 e y t2 t3) v)

theorem expPoly_up (Y : Mat 256) : expPoly k1_pay4 (up Y) = up (expGrouped Y) := by
  rw [eye256]
  unfold expPoly expRow0 expRow1 expRow2 expGrouped
  simp only [add_up, sub_up, mm_up, scale_up, named_exp_0_0, named_exp_0_1, named_exp_0_2, named_exp_0_3, named_exp_1_0, named_exp_1_1, named_exp_1_2, named_exp_1_3, named_exp_2_0, named_exp_2_1, named_exp_2_2, named_exp_2_3]

/-! ## The scalings -/

/-- What the kernel puts on the diagonal for the logarithm, from one matrix as loaded. -/
def logArg (e : FVec Ideal S64x64 .f32) (X : Vec Ideal S1x1x64x64 .bf16) : FVec Ideal S1x64x64 .f32 :=
  shapeCast S1x64x64 (subf
    (mulf (extf .f32 (shapeCast S64x64 X shapeCasts_S1x1x64x64_S64x64) bitsLt_bf16_f32) (broadcast S64x64 (Named.named (F := Ideal) κ (φ := .f32) "log_scale" 0x3E924925#32)))
    (mulf (broadcast S64x64 (Named.named (F := Ideal) κ (φ := .f32) "log_shift" 0x3FA49249#32)) e)) shapeCasts_S64x64_S1x64x64

/-- What it puts there for the exponential, from a mixed logarithm. -/
def expArg (e L : FVec Ideal S64x64 .f32) : FVec Ideal S1x64x64 .f32 :=
  shapeCast S1x64x64 (subf (mulf L (broadcast S64x64 (Named.named (F := Ideal) κ (φ := .f32) "exp_scale" 0x3F5E9BD3#32)))
    (mulf (broadcast S64x64 (Named.named (F := Ideal) κ (φ := .f32) "exp_shift" 0x3F69BD38#32)) e)) shapeCasts_S64x64_S1x64x64

theorem logArg_apply (X : Vec Ideal S1x1x64x64 .bf16) (A : Mat 64) (h : ∀ i j, X (ix4 0 0 i j) = ((A i j : ℝ) : EReal)) (i j : Fin 64) :
    logArg k1_pay5 X (ix3 0 i j) = ((((2 / 7 : ℝ) • A - (9 / 7 : ℝ) • (1 : Mat 64)) i j : ℝ) : EReal) := by
  rw [eye64]
  pointwise [logArg]
  rw [h, up_ix2, named_log_scale, named_log_shift, ← EReal.coe_mul, ← EReal.coe_mul, ← EReal.coe_sub, mul_comm]
  rfl

theorem expArg_apply (L : Mat 64) (i j : Fin 64) :
    expArg k1_pay5 (up L) (ix3 0 i j) = ((((20 / 23 : ℝ) • L - (21 / 23 : ℝ) • (1 : Mat 64)) i j : ℝ) : EReal) := by
  rw [eye64]
  pointwise [expArg]
  rw [up_ix2, up_ix2, named_exp_scale, named_exp_shift, ← EReal.coe_mul, ← EReal.coe_mul, ← EReal.coe_sub, mul_comm]
  rfl

end Cert.Slab

end
-- ==== Proof.Pieces.lean ====
/- What one grid point of the kernel stores: the two lists of diagonal blocks, the list of logarithms and the list of
   results, each as one function of the block's number. -/
module

public import proofs.«01_k».proof.Proof.Slab
public import proofs.«01_k».proof.Proof.Gen.KernelIdeal.Frame
public import Idealize.ShloMosaic.Lib.Pipeline.ReadBack

@[expose] public section

set_option maxRecDepth 16384

noncomputable section

namespace Cert.Pieces

open Idealize.ShloMosaic Idealize.ShloMosaic.TcCoe Idealize.SL.Sem
open Cert.KernelIdeal Cert.KernelIdeal.Gen Cert.Cheb Cert.Lift Cert.Slab

/-! ## Lists of stores -/

/-- The diagonal block of matrix `k` = 16 · batch + channel: slab `k / 4`, position `k % 4`. -/
abbrev diagRect (k : Fin 64) : Rect S16x256x256 :=
  Rect.unit ![(k : ℕ) / 4, 64 * ((k : ℕ) % 4), 64 * ((k : ℕ) % 4)] S1x64x64.size (by
    intro a; fin_cases a <;> simp <;> omega)

/-- The 64 diagonal blocks with their contents, the last first. -/
def diagList (w : Fin 64 → FVec Ideal S1x64x64 .f32) : List (View.Piece (Elt Ideal) S16x256x256 .f32) :=
  (List.finRange 64).reverse.map fun k => ⟨diagRect k, w k⟩

/-- The place of matrix `k` in an array by batch and channel. -/
abbrev tileRect (k : Fin 64) : Rect S4x16x64x64 :=
  Rect.unit ![(k : ℕ) / 16, (k : ℕ) % 16, 0, 0] S1x1x64x64.size (by
    intro a; fin_cases a <;> simp <;> omega)

/-- The 64 places with their contents, the last first. -/
def tileList (w : Fin 64 → FVec Ideal S1x1x64x64 .f32) : List (View.Piece (Elt Ideal) S4x16x64x64 .f32) :=
  (List.finRange 64).reverse.map fun k => ⟨tileRect k, w k⟩

/-- Slab `p` of the diagonal blocks. -/
abbrev slabRect (p : Fin 16) : Rect S16x256x256 :=
  Rect.unit ![(p : ℕ), 0, 0] S1x256x256.size (by intro a; fin_cases a <;> simp <;> omega)

/-- Entry `(i, c)` of the weights. -/
abbrev cellRect (i c : Fin 16) : Rect S16x16 :=
  Rect.unit ![(i : ℕ), (c : ℕ)] S1x1.size (by intro a; fin_cases a <;> simp <;> omega)

/-- The block of `P` that belongs to matrix `k`. -/
def tile (P : FVec Ideal S256x256 .f32) (k : Fin 64) : FVec Ideal S1x1x64x64 .f32 :=
  shapeCast S1x1x64x64 (extractStridedSlice S64x64 ![64 * ((k : ℕ) % 4), 64 * ((k : ℕ) % 4)] P (by
    refine ⟨rfl, ?_⟩; intro a; fin_cases a <;> simp <;> omega)) shapeCasts_S64x64_S1x1x64x64

/-- The weighted sum of sixteen matrices, from the left. -/
def mix (L : Fin 16 → FVec Ideal S64x64 .f32) (w : Fin 16 → Ideal .f32) : FVec Ideal S64x64 .f32 :=
  addf (addf (addf (addf (addf (addf (addf (addf (addf (addf (addf (addf (addf (addf (addf (mulf (L 0) (broadcast S64x64 (w 0)))
    (mulf (L 1) (broadcast S64x64 (w 1))))
    (mulf (L 2) (broadcast S64x64 (w 2))))
    (mulf (L 3) (broadcast S64x64 (w 3))))
    (mulf (L 4) (broadcast S64x64 (w 4))))
    (mulf (L 5) (broadcast S64x64 (w 5))))
    (mulf (L 6) (broadcast S64x64 (w 6))))
    (mulf (L 7) (broadcast S64x64 (w 7))))
    (mulf (L 8) (broadcast S64x64 (w 8))))
    (mulf (L 9) (broadcast S64x64 (w 9))))
    (mulf (L 10) (broadcast S64x64 (w 10))))
    (mulf (L 11) (broadcast S64x64 (w 11))))
    (mulf (L 12) (broadcast S64x64 (w 12))))
    (mulf (L 13) (broadcast S64x64 (w 13))))
    (mulf (L 14) (broadcast S64x64 (w 14))))
    (mulf (L 15) (broadcast S64x64 (w 15)))

section Point

variable (c : Dev nD) (arg1 : Memref sig .tc .vmem S4x16x64x64 .bf16) (harg1 : arg1.IsWhole)
  (arg2 : Memref sig .tc .smem S16x16 .f32) (harg2 : arg2.IsWhole)
  (arg4 : Memref sig .tc .vmem S16x256x256 .f32) (arg5 : Memref sig .tc .vmem S4x16x64x64 .f32)
  (x0 : Vec Ideal S4x16x64x64 .bf16) (x1 : Vec Ideal S16x16 .f32)

/-- Matrix `k` of the block of inputs, as loaded. -/
def loaded (k : Fin 64) : Vec Ideal S1x1x64x64 .bf16 :=
  View.readAt (Elt Ideal) arg1.view (tileRect k).toLoadRect (harg1.unread x0)

theorem diag_log : kernelRun1_A.sl.HS0_65 (F := Ideal) c arg1 harg1 x0
    = diagList (fun k => logArg k1_pay5 (loaded arg1 harg1 x0 k)) ++ [⟨Rect.unit ![0, 0, 0] S16x256x256.size inb_S16x256x256_S16x256x256_0_0_0, k1_pay6 (F := Ideal)⟩] := by
  sl_kernel_rfl

/-- Slab `p` of the logarithms. -/
def logOf (p : Fin 16) : FVec Ideal S256x256 .f32 :=
  logPoly k1_pay4 (shapeCast S256x256 (arg4.view.readCov (kernelRun1_A.sl.HS0_65 (F := Ideal) c arg1 harg1 x0) (slabRect p).toLoadRect)
    shapeCasts_S1x256x256_S256x256)

theorem tiles_log : kernelRun1_A.sl.HS1_64 (F := Ideal) c arg1 harg1 arg4 x0 = tileList fun k => tile (logOf c arg1 harg1 arg4 x0 ⟨(k : ℕ) / 4, by omega⟩) k := by
  sl_kernel_rfl

/-- The logarithm of matrix `k`, as read back. -/
def logBack (k : Fin 64) : FVec Ideal S64x64 .f32 :=
  shapeCast S64x64 (arg5.view.readCov (kernelRun1_A.sl.HS1_64 (F := Ideal) c arg1 harg1 arg4 x0) (tileRect k).toLoadRect)
    shapeCasts_S1x1x64x64_S64x64

/-- Weight `(i, c)`, as loaded. -/
def weight (i c : Fin 16) : Ideal .f32 :=
  View.readAt (Elt Ideal) arg2.view (cellRect i c).toLoadRect (harg2.unread x1) (Shape.Idx.first (show 0 < S1x1.numel by decide))

/-- Mixed logarithm `k` = 16 · batch + output. -/
def mixed (k : Fin 64) : FVec Ideal S64x64 .f32 :=
  mix (fun j => logBack c arg1 harg1 arg4 arg5 x0 ⟨16 * ((k : ℕ) / 16) + (j : ℕ), by omega⟩)
    (fun j => weight arg2 harg2 x1 ⟨(k : ℕ) % 16, by omega⟩ j)

theorem diag_exp : kernelRun1_A.sl.HS0_129 (F := Ideal) c arg1 harg1 arg2 harg2 arg4 arg5 x0 x1
    = diagList (fun k => expArg k1_pay5 (mixed c arg1 harg1 arg2 harg2 arg4 arg5 x0 x1 k)) ++ kernelRun1_A.sl.HS0_65 (F := Ideal) c arg1 harg1 x0 := by
  sl_kernel_rfl

/-- Slab `p` of the exponentials. -/
def expOf (p : Fin 16) : FVec Ideal S256x256 .f32 :=
  expPoly k1_pay4 (shapeCast S256x256 (arg4.view.readCov (kernelRun1_A.sl.HS0_129 (F := Ideal) c arg1 harg1 arg2 harg2 arg4 arg5 x0 x1) (slabRect p).toLoadRect)
    shapeCasts_S1x256x256_S256x256)

variable (i : grid1.Coords) (arg3 : Memref sig .tc .vmem S4x16x64x64 .f32) (harg3 : arg3.IsWhole) (harg4 : arg4.IsWhole) (harg5 : arg5.IsWhole)

theorem tiles_out : (kernelRun1_A (F := Ideal) c i arg1 harg1 arg2 harg2 arg3 harg3 arg4 harg4 arg5 harg5 x0 x1).1
    = tileList fun k => tile (expOf c arg1 harg1 arg2 harg2 arg4 arg5 x0 x1 ⟨(k : ℕ) / 4, by omega⟩) k := by
  sl_kernel_rfl

end Point

end Cert.Pieces

end
-- ==== Proof.Point.lean ====
/- What one grid point of the kernel stores, when its inputs are real numbers: the exponential series of the weighted sums of
   the logarithm series. -/
module

public import proofs.«01_k».proof.Proof.Pieces
public import Idealize.ShloMosaic.Lib.Pipeline.ValueKit.Geometry
public import Idealize.ShloMosaic.Lib.Pipeline.ValueKit.Basic

@[expose] public section

set_option maxRecDepth 16384

noncomputable section

namespace Cert.Point

open Idealize.ShloMosaic Idealize.ShloMosaic.TcCoe Idealize.SL.Sem
open Cert.KernelIdeal Cert.KernelIdeal.Gen Cert.Cheb Cert.Lift Cert.Slab Cert.Pieces

/-! ## Reading the lists of stores -/

theorem ix4_zero {n m : ℕ} (x : (⟨4, ![1, 1, n, m]⟩ : Shape).Idx) : ∃ (i : Fin n) (j : Fin m), x = ix4 (0 : Fin 1) (0 : Fin 1) i j := by
  have h (a b : Fin 1) (i : Fin n) (j : Fin m) : ix4 a b i j = ix4 (0 : Fin 1) (0 : Fin 1) i j := by
    rw [Subsingleton.elim a 0, Subsingleton.elim b 0]
  exact ⟨x 2, x 3, (eq_ix4 x).trans (h _ _ _ _)⟩

theorem ix3_zero {n m : ℕ} (x : (⟨3, ![1, n, m]⟩ : Shape).Idx) : ∃ (i : Fin n) (j : Fin m), x = ix3 (0 : Fin 1) i j := by
  have h (a : Fin 1) (i : Fin n) (j : Fin m) : ix3 a i j = ix3 (0 : Fin 1) i j := by
    rw [Subsingleton.elim a 0]
  exact ⟨x 1, x 2, (eq_ix3 x).trans (h _ _ _)⟩

theorem diag_emb (k : Fin 64) (i j : Fin 64) : (diagRect k).emb (ix3 0 i j)
    = ix3 (⟨(k : ℕ) / 4, by omega⟩ : Fin 16) (⟨64 * ((k : ℕ) % 4) + i, by omega⟩ : Fin 256) (⟨64 * ((k : ℕ) % 4) + j, by omega⟩ : Fin 256) := by
  funext a
  apply Fin.ext
  rw [ValueKit.rect_emb_unit_val]
  fin_cases a <;> simp

theorem tile_emb (k : Fin 64) (i j : Fin 64) : (tileRect k).emb (ix4 0 0 i j)
    = ix4 (⟨(k : ℕ) / 16, by omega⟩ : Fin 4) (⟨(k : ℕ) % 16, by omega⟩ : Fin 16) i j := by
  funext a
  apply Fin.ext
  rw [ValueKit.rect_emb_unit_val]
  fin_cases a <;> simp

theorem slab_emb (p : Fin 16) (i j : Fin 256) : (slabRect p).emb (ix3 0 i j) = ix3 p i j := by
  funext a
  apply Fin.ext
  rw [ValueKit.rect_emb_unit_val]
  fin_cases a <;> simp

/-- Off the rectangles of a list of stores, the list before it counts. -/
theorem canon_append_off {s : Shape} {e : EltTy} (L' : List (View.Piece (Elt Ideal) s e)) (y : s.Idx) :
    ∀ L : List (View.Piece (Elt Ideal) s e), (∀ q ∈ L, y ∉ q.1.set) → View.canon (L ++ L') y = View.canon L' y
  | [], _ => rfl
  | q :: L, h => by
    rw [List.cons_append, View.canon_cons_of_not_mem q _ (h q List.mem_cons_self)]
    exact canon_append_off L' y L fun r hr => h r (List.mem_cons_of_mem _ hr)

/-- The matrix to which an index of the slabs belongs. -/
abbrev matAt (p : Fin 16) (i : Fin 256) : Fin 64 := ⟨4 * (p : ℕ) + (i : ℕ) / 64, by omega⟩

abbrev inBlock (i : Fin 256) : Fin 64 := ⟨(i : ℕ) % 64, by omega⟩

theorem diag_read (w : Fin 64 → FVec Ideal S1x64x64 .f32) (L' : List (View.Piece (Elt Ideal) S16x256x256 .f32)) (p : Fin 16) (i j : Fin 256)
    (h : (i : ℕ) / 64 = (j : ℕ) / 64) :
    View.canon (diagList w ++ L') (ix3 p i j) = w (matAt p i) (ix3 0 (inBlock i) (inBlock j)) := by
  refine (View.canon_append_of_pieces (Val := Elt Ideal) (fun y : S16x256x256.Idx =>
    w (matAt (y 0) (y 1)) (ix3 0 (inBlock (y 1)) (inBlock (y 2)))) L' (diagList w) ?_ (ix3 p i j) ?_).trans rfl
  · intro q hq x
    obtain ⟨k, -, rfl⟩ := List.mem_map.1 hq
    obtain ⟨a, b, rfl⟩ := ix3_zero x
    show w k (ix3 0 a b) = w (matAt ((diagRect k).emb (ix3 0 a b) 0) ((diagRect k).emb (ix3 0 a b) 1))
      (ix3 0 (inBlock ((diagRect k).emb (ix3 0 a b) 1)) (inBlock ((diagRect k).emb (ix3 0 a b) 2)))
    rw [diag_emb]
    simp only [ix3_0, ix3_1, ix3_2]
    have e1 : matAt (⟨(k : ℕ) / 4, by omega⟩ : Fin 16) (⟨64 * ((k : ℕ) % 4) + a, by omega⟩ : Fin 256) = k := by
      apply Fin.ext; show 4 * ((k : ℕ) / 4) + (64 * ((k : ℕ) % 4) + (a : ℕ)) / 64 = k; omega
    have e2 (c : Fin 64) : inBlock (⟨64 * ((k : ℕ) % 4) + c, by omega⟩ : Fin 256) = c := by
      apply Fin.ext; show (64 * ((k : ℕ) % 4) + (c : ℕ)) % 64 = c; omega
    rw [e1, e2, e2]
  · refine ⟨⟨diagRect (matAt p i), w _⟩, List.mem_map.2 ⟨matAt p i, by simp, rfl⟩, ?_⟩
    rw [Rect.mem_set_unit]
    intro a
    fin_cases a <;> simp <;> omega

theorem diag_read_off (w : Fin 64 → FVec Ideal S1x64x64 .f32) (L' : List (View.Piece (Elt Ideal) S16x256x256 .f32)) (p : Fin 16) (i j : Fin 256)
    (h : (i : ℕ) / 64 ≠ (j : ℕ) / 64) :
    View.canon (diagList w ++ L') (ix3 p i j) = View.canon L' (ix3 p i j) := by
  apply canon_append_off
  intro q hq
  obtain ⟨k, -, rfl⟩ := List.mem_map.1 hq
  rw [Rect.mem_set_unit]
  intro hm
  have h1 := hm 1
  have h2 := hm 2
  simp at h1 h2
  omega

theorem tile_read (w : Fin 64 → FVec Ideal S1x1x64x64 .f32) (b : Fin 4) (c : Fin 16) (i j : Fin 64) :
    View.canon (tileList w) (ix4 b c i j) = w ⟨16 * (b : ℕ) + c, by omega⟩ (ix4 0 0 i j) := by
  rw [← List.append_nil (tileList w)]
  let G : S4x16x64x64.Idx → Ideal .f32 := fun y =>
    w ⟨16 * (y 0 : ℕ) + (y 1 : ℕ), by
      have h0 : (y 0 : ℕ) < 4 := (y 0).isLt
      have h1 : (y 1 : ℕ) < 16 := (y 1).isLt
      omega⟩ (ix4 0 0 (y 2) (y 3))
  refine (View.canon_append_of_pieces (Val := Elt Ideal) G [] (tileList w) ?_ (ix4 b c i j) ?_).trans rfl
  · intro q hq x
    obtain ⟨k, -, rfl⟩ := List.mem_map.1 hq
    obtain ⟨a, b, rfl⟩ := ix4_zero x
    show w k (ix4 0 0 a b) = G ((tileRect k).emb (ix4 0 0 a b))
    rw [tile_emb]
    show w k (ix4 0 0 a b) = w ⟨16 * ((k : ℕ) / 16) + (k : ℕ) % 16, _⟩ (ix4 0 0 a b)
    congr 1
    apply Fin.ext
    show (k : ℕ) = 16 * ((k : ℕ) / 16) + (k : ℕ) % 16
    omega
  · refine ⟨⟨tileRect ⟨16 * (b : ℕ) + c, by omega⟩, w _⟩, List.mem_map.2 ⟨_, by simp, rfl⟩, ?_⟩
    rw [Rect.mem_set_unit]
    intro a
    fin_cases a <;> simp <;> omega

theorem cast_slab (Z : FVec Ideal S1x256x256 .f32) (i j : Fin 256) : shapeCast S256x256 Z shapeCasts_S1x256x256_S256x256 (ix2 i j) = Z (ix3 0 i j) := by
  pointwise

theorem cast_tile (Z : FVec Ideal S1x1x64x64 .f32) (i j : Fin 64) : shapeCast S64x64 Z shapeCasts_S1x1x64x64_S64x64 (ix2 i j) = Z (ix4 0 0 i j) := by
  pointwise

theorem idx2 {n m : ℕ} (x : (⟨2, ![n, m]⟩ : Shape).Idx) : ∃ (i : Fin n) (j : Fin m), x = ix2 i j := ⟨x 0, x 1, eq_ix2 x⟩

/-- A slab read back, its blocks real matrices and everything beside them 0. -/
theorem slab_read (v : View sig .tc .vmem S16x256x256 .f32) (w : Fin 64 → FVec Ideal S1x64x64 .f32) (L' : List (View.Piece (Elt Ideal) S16x256x256 .f32))
    (M : Fin 64 → Mat 64) (hw : ∀ k i j, w k (ix3 0 i j) = ((M k i j : ℝ) : EReal))
    (hL : ∀ (p : Fin 16) (i j : Fin 256), (i : ℕ) / 64 ≠ (j : ℕ) / 64 → View.canon L' (ix3 p i j) = (0 : EReal)) (p : Fin 16) :
    shapeCast S256x256 (v.readCov (diagList w ++ L') (slabRect p).toLoadRect) shapeCasts_S1x256x256_S256x256
      = up (diag4 fun r => M ⟨4 * (p : ℕ) + (r : ℕ), by omega⟩) := by
  rw [View.readCov_eq_canon']
  funext i
  obtain ⟨i0, i1, rfl⟩ := idx2 i
  refine (cast_slab _ i0 i1).trans ?_
  rw [up_ix2, diag4_apply]
  show View.canon (diagList w ++ L') ((slabRect p).emb (ix3 0 i0 i1)) = _
  rw [slab_emb]
  by_cases h : (i0 : ℕ) / 64 = (i1 : ℕ) / 64
  · rw [diag_read _ _ _ _ _ h, if_pos h, hw]
  · rw [diag_read_off _ _ _ _ _ h, if_neg h, hL _ _ _ h]
    rfl

theorem tile_apply (M : Fin 4 → Mat 64) (k : Fin 64) (i j : Fin 64) :
    tile (up (diag4 M)) k (ix4 0 0 i j) = ((M ⟨(k : ℕ) % 4, by omega⟩ i j : ℝ) : EReal) := by
  unfold tile
  pointwise
  rw [up_ix2, diag4_apply]
  have e1 : ((64 * ((k : ℕ) % 4) + (i : ℕ)) / 64) = (k : ℕ) % 4 := by omega
  have e2 : ((64 * ((k : ℕ) % 4) + (j : ℕ)) / 64) = (k : ℕ) % 4 := by omega
  have e3 : ((64 * ((k : ℕ) % 4) + (i : ℕ)) % 64) = i := by omega
  have e4 : ((64 * ((k : ℕ) % 4) + (j : ℕ)) % 64) = j := by omega
  simp only [e1, e2, e3, e4, if_true]

section Point

variable (c : Dev nD) (arg1 : Memref sig .tc .vmem S4x16x64x64 .bf16) (harg1 : arg1.IsWhole)
  (arg2 : Memref sig .tc .smem S16x16 .f32) (harg2 : arg2.IsWhole)
  (arg4 : Memref sig .tc .vmem S16x256x256 .f32) (arg5 : Memref sig .tc .vmem S4x16x64x64 .f32)
  (x0 : Vec Ideal S4x16x64x64 .bf16) (x1 : Vec Ideal S16x16 .f32)

theorem loaded_apply (k : Fin 64) (i j : Fin 64) : loaded arg1 harg1 x0 k (ix4 0 0 i j)
    = x0 (ix4 (⟨(k : ℕ) / 16, by omega⟩ : Fin 4) (⟨(k : ℕ) % 16, by omega⟩ : Fin 16) i j) := by
  unfold loaded
  rw [View.readAt_apply, harg1.read_unread]
  exact congrArg x0 (tile_emb k i j)

theorem weight_eq (i j : Fin 16) : weight arg2 harg2 x1 i j = x1 (ix2 i j) := by
  unfold weight
  rw [View.readAt_apply, harg2.read_unread]
  congr 1
  funext a
  apply Fin.ext
  show ((cellRect i j).emb _ a : ℕ) = _
  rw [ValueKit.rect_emb_unit_val]
  fin_cases a <;> rfl

/-- The affine images of the logarithm's and the exponential's intervals onto [-1, 1]. -/
def logShift (A : Mat 64) : Mat 64 := (2 / 7 : ℝ) • A - (9 / 7 : ℝ) • 1

def expShift (A : Mat 64) : Mat 64 := (20 / 23 : ℝ) • A - (21 / 23 : ℝ) • 1

/-- The logarithm series of a matrix, and the exponential series of the weighted sum of some. -/
def logMat (A : Mat 64) : Mat 64 := logSeries (logShift A)

def barycenter (w : Fin 16 → ℝ) (A : Fin 16 → Mat 64) : Mat 64 := expSeries (expShift (∑ j, w j • logMat (A j)))

variable (X : Fin 4 → Fin 16 → Mat 64) (W : Fin 16 → Fin 16 → ℝ)
  (hX : ∀ b j m n, x0 (ix4 b j m n) = ((X b j m n : ℝ) : EReal)) (hW : ∀ i j, x1 (ix2 i j) = ((W i j : ℝ) : EReal))

/-- Matrix `k` = 16 · batch + channel. -/
abbrev nth (k : Fin 64) : Mat 64 := X ⟨(k : ℕ) / 16, by omega⟩ ⟨(k : ℕ) % 16, by omega⟩

include hX in
theorem logArg_loaded (k : Fin 64) (i j : Fin 64) :
    logArg k1_pay5 (loaded arg1 harg1 x0 k) (ix3 0 i j) = ((logShift (nth X k) i j : ℝ) : EReal) :=
  logArg_apply _ _ (fun a b => by rw [loaded_apply, hX]) i j

theorem fill_read (p : Fin 16) (i j : Fin 256) :
    View.canon ([⟨Rect.unit ![0, 0, 0] S16x256x256.size inb_S16x256x256_S16x256x256_0_0_0, k1_pay6 (F := Ideal)⟩] : List (View.Piece (Elt Ideal) S16x256x256 .f32)) (ix3 p i j) = (0 : EReal) := by
  rw [View.canon_cons_unit_lit]
  · unfold k1_pay6; pointwise
  · intro a; fin_cases a <;> rfl

include hX in
theorem logOf_eq (p : Fin 16) : logOf c arg1 harg1 arg4 x0 p = up (diag4 fun r => logMat (nth X ⟨4 * (p : ℕ) + (r : ℕ), by omega⟩)) := by
  unfold logOf
  rw [diag_log, slab_read _ _ _ (fun k => logShift (nth X k)) (logArg_loaded arg1 harg1 x0 X hX) (fun p i j _ => fill_read p i j), logPoly_up, logGrouped_diag4]
  rfl

include hX in
theorem logBack_eq (k : Fin 64) : logBack c arg1 harg1 arg4 arg5 x0 k = up (logMat (nth X k)) := by
  unfold logBack
  rw [tiles_log, View.readCov_eq_canon']
  funext i
  obtain ⟨i0, i1, rfl⟩ := idx2 i
  refine (cast_tile _ i0 i1).trans ?_
  show View.canon (tileList _) ((tileRect k).emb (ix4 0 0 i0 i1)) = _
  rw [tile_emb, tile_read, logOf_eq c arg1 harg1 arg4 x0 X hX, tile_apply, up_ix2]
  have e : (⟨4 * ((16 * ((k : ℕ) / 16) + (k : ℕ) % 16) / 4) + (16 * ((k : ℕ) / 16) + (k : ℕ) % 16) % 4, by omega⟩ : Fin 64) = k := by
    apply Fin.ext
    show 4 * ((16 * ((k : ℕ) / 16) + (k : ℕ) % 16) / 4) + (16 * ((k : ℕ) / 16) + (k : ℕ) % 16) % 4 = k
    omega
  exact congrArg (fun q : Fin 64 => ((logMat (nth X q) i0 i1 : ℝ) : EReal)) e

include hX hW in
theorem mixed_eq (k : Fin 64) : mixed c arg1 harg1 arg2 harg2 arg4 arg5 x0 x1 k
    = up (∑ j, W ⟨(k : ℕ) % 16, by omega⟩ j • logMat (X ⟨(k : ℕ) / 16, by omega⟩ j)) := by
  unfold mixed mix
  simp only [logBack_eq c arg1 harg1 arg4 arg5 x0 X hX, weight_eq, hW, up_scale, add_up]
  have e (j : Fin 16) : nth X (⟨16 * ((k : ℕ) / 16) + (j : ℕ), by omega⟩ : Fin 64) = X ⟨(k : ℕ) / 16, by omega⟩ j := by
    have e1 : (16 * ((k : ℕ) / 16) + (j : ℕ)) / 16 = (k : ℕ) / 16 := by omega
    have e2 : (16 * ((k : ℕ) / 16) + (j : ℕ)) % 16 = j := by omega
    unfold nth
    simp only [e1, e2]
  simp only [e, Fin.sum_univ_succ, Finset.univ_eq_empty, Finset.sum_empty, add_zero]
  refine congrArg up ?_
  simp only [← add_assoc]
  rfl

theorem offDiag (p : Fin 16) (i j : Fin 256) (h : (i : ℕ) / 64 ≠ (j : ℕ) / 64) :
    View.canon (kernelRun1_A.sl.HS0_65 (F := Ideal) c arg1 harg1 x0) (ix3 p i j) = (0 : EReal) := by
  rw [diag_log, diag_read_off _ _ _ _ _ h, fill_read]

include hX hW in
theorem expOf_eq (p : Fin 16) : expOf c arg1 harg1 arg2 harg2 arg4 arg5 x0 x1 p
    = up (diag4 fun r => barycenter (W ⟨(4 * (p : ℕ) + (r : ℕ)) % 16, by omega⟩) (X ⟨(4 * (p : ℕ) + (r : ℕ)) / 16, by omega⟩)) := by
  unfold expOf
  rw [diag_exp, slab_read _ _ _ (fun k => expShift (∑ j, W ⟨(k : ℕ) % 16, by omega⟩ j • logMat (X ⟨(k : ℕ) / 16, by omega⟩ j)))
    (fun k i j => by rw [mixed_eq c arg1 harg1 arg2 harg2 arg4 arg5 x0 x1 X W hX hW]; exact expArg_apply _ i j)
    (offDiag c arg1 harg1 x0), expPoly_up, expGrouped_diag4]
  rfl

variable (i : grid1.Coords) (arg3 : Memref sig .tc .vmem S4x16x64x64 .f32) (harg3 : arg3.IsWhole) (harg4 : arg4.IsWhole) (harg5 : arg5.IsWhole)

include hX hW in
/-- Entry `(m, n)` of result `(b, j)` of one grid point. -/
theorem out_apply (b : Fin 4) (j : Fin 16) (m n : Fin 64) :
    out1_A_2 (F := Ideal) c i arg1 harg1 arg2 harg2 arg3 harg3 arg4 harg4 arg5 harg5 x0 x1 (ix4 b j m n)
      = ((barycenter (W j) (X b) m n : ℝ) : EReal) := by
  unfold out1_A_2
  rw [View.read_writes_junk_eq_canon, tiles_out, tile_read, expOf_eq c arg1 harg1 arg2 harg2 arg4 arg5 x0 x1 X W hX hW, tile_apply]
  have e1 : (4 * ((16 * (b : ℕ) + (j : ℕ)) / 4) + (16 * (b : ℕ) + (j : ℕ)) % 4) % 16 = j := by omega
  have e2 : (4 * ((16 * (b : ℕ) + (j : ℕ)) / 4) + (16 * (b : ℕ) + (j : ℕ)) % 4) / 16 = b := by omega
  simp only [e1, e2]

end Point

end Cert.Point

end
-- ==== Proof.Sparse.lean ====
/- The threshold of the sparsemax of one row of real numbers: the closed form over the sorted row, forty halvings of an
   interval, and that the halvings end in the middle of the step of a grid that the closed form lies in. -/
module

public import Mathlib.Analysis.RCLike.Basic
public import Mathlib.Order.Interval.Finset.Fin
public import Mathlib.Data.Fintype.Sort

@[expose] public section

noncomputable section

namespace Cert.Sparse

open Finset

/-- What remains of a row above `t`. -/
def rest {n : ℕ} (z : Fin n → ℝ) (t : ℝ) : ℝ := ∑ j, max (z j - t) 0

/-- `τ` is the threshold of the row: above it remains at most 1, below it more. -/
def IsThreshold {n : ℕ} (z : Fin n → ℝ) (τ : ℝ) : Prop := ∀ t, 1 < rest z t ↔ t < τ

/-! ## The halvings -/

/-- One halving of the interval between `p.1` and `p.2`. -/
def halve {n : ℕ} (z : Fin n → ℝ) (p : ℝ × ℝ) : ℝ × ℝ :=
  if 1 < rest z (1 / 2 * (p.1 + p.2)) then (1 / 2 * (p.1 + p.2), p.2) else (p.1, 1 / 2 * (p.1 + p.2))

/-- The middle of the step of the grid of step 2^-40 from `base` on in which `τ` lies. -/
def snap (base τ : ℝ) : ℝ := base + (max (⌈(τ - base) * 2 ^ 40⌉ : ℝ) 1 - 1 / 2) * (1 / 2 ^ 40)

theorem halve_iterate {n : ℕ} (z : Fin n → ℝ) (τ base : ℝ) (h : IsThreshold z τ) (hb : τ ≤ base + 1) (k : ℕ) :
    ∃ a : ℕ, (halve z)^[k] (base, base + 1) = (base + a / 2 ^ k, base + (a + 1) / 2 ^ k)
      ∧ (a = 0 ∨ base + a / 2 ^ k < τ) ∧ τ ≤ base + (a + 1) / 2 ^ k := by
  induction k with
  | zero => exact ⟨0, by simp, Or.inl rfl, by simpa using hb⟩
  | succ k ih =>
    obtain ⟨a, e, hl, hr⟩ := ih
    have p : (0 : ℝ) < 2 ^ k := by positivity
    have lo : base + (a : ℝ) / 2 ^ k = base + (2 * a : ℝ) / 2 ^ (k + 1) := by rw [pow_succ]; field_simp
    have hi : base + ((a : ℝ) + 1) / 2 ^ k = base + (2 * a + 1 + 1 : ℝ) / 2 ^ (k + 1) := by rw [pow_succ]; field_simp; ring
    have m : 1 / 2 * ((base + (a : ℝ) / 2 ^ k) + (base + ((a : ℝ) + 1) / 2 ^ k)) = base + (2 * a + 1 : ℝ) / 2 ^ (k + 1) := by
      rw [pow_succ]; field_simp; ring
    rw [Function.iterate_succ_apply', e]
    unfold halve
    simp only [m]
    by_cases c : base + (2 * a + 1 : ℝ) / 2 ^ (k + 1) < τ
    · refine ⟨2 * a + 1, ?_, Or.inr ?_, ?_⟩
      · rw [if_pos ((h _).2 c), hi]; push_cast; rfl
      · push_cast; exact c
      · push_cast; rw [← hi]; exact hr
    · refine ⟨2 * a, ?_, ?_, ?_⟩
      · rw [if_neg (fun q => c ((h _).1 q)), lo]; push_cast; rfl
      · rcases hl with rfl | hl
        · exact Or.inl rfl
        · right; push_cast; rw [← lo]; exact hl
      · push_cast; exact not_lt.1 c

theorem halve_snap {n : ℕ} (z : Fin n → ℝ) (τ base : ℝ) (h : IsThreshold z τ) (hb : τ ≤ base + 1) :
    1 / 2 * (((halve z)^[40] (base, base + 1)).1 + ((halve z)^[40] (base, base + 1)).2) = snap base τ := by
  obtain ⟨a, e, hl, hr⟩ := halve_iterate z τ base h hb 40
  have p : (0 : ℝ) < 2 ^ 40 := by positivity
  have hr' : (τ - base) * 2 ^ 40 ≤ (a : ℝ) + 1 := by
    rw [← le_div_iff₀ p]; linarith
  have key : max (⌈(τ - base) * 2 ^ 40⌉ : ℝ) 1 = (a : ℝ) + 1 := by
    have up : (⌈(τ - base) * 2 ^ 40⌉ : ℝ) ≤ (a : ℝ) + 1 := by
      have : ⌈(τ - base) * 2 ^ 40⌉ ≤ (a : ℤ) + 1 := Int.ceil_le.2 (by push_cast; exact hr')
      exact_mod_cast this
    rcases hl with rfl | hl
    · rw [max_eq_right]
      · simp
      · simpa using up
    · have hl' : (a : ℝ) < (τ - base) * 2 ^ 40 := by
        rw [← div_lt_iff₀ p]; linarith
      have : (a : ℤ) + 1 ≤ ⌈(τ - base) * 2 ^ 40⌉ := by
        rw [Int.add_one_le_iff, Int.lt_ceil]; exact_mod_cast hl'
      have dn : (a : ℝ) + 1 ≤ (⌈(τ - base) * 2 ^ 40⌉ : ℝ) := by exact_mod_cast this
      have : (⌈(τ - base) * 2 ^ 40⌉ : ℝ) = (a : ℝ) + 1 := le_antisymm up dn
      rw [this, max_eq_left]
      have : (0 : ℝ) ≤ a := Nat.cast_nonneg a
      linarith
  rw [e]
  unfold snap
  rw [key]
  simp only
  field_simp
  ring

/-! ## The closed form -/

/-- The rows' partial sums, and the positions that count. -/
def cum {n : ℕ} (s : Fin n → ℝ) (k : Fin n) : ℝ := ∑ j ∈ Iic k, s j

def counts {n : ℕ} (s : Fin n → ℝ) (k : Fin n) : Prop := cum s k < 1 + ((k : ℕ) + 1 : ℝ) * s k

open Classical in
def support {n : ℕ} (s : Fin n → ℝ) : Finset (Fin n) := univ.filter (counts s)

theorem card_Iic' {n : ℕ} (k : Fin n) : ((Iic k).card : ℝ) = (k : ℕ) + 1 := by
  rw [Fin.card_Iic]; push_cast; rfl

theorem counts_iff {n : ℕ} (s : Fin n → ℝ) (k : Fin n) : counts s k ↔ ∑ j ∈ Iic k, (s j - s k) < 1 := by
  unfold counts cum
  rw [sum_sub_distrib, sum_const, nsmul_eq_mul, card_Iic']
  constructor <;> intro h <;> linarith

theorem counts_mono {n : ℕ} (s : Fin n → ℝ) (hs : Antitone s) {i k : Fin n} (h : i ≤ k) (hk : counts s k) : counts s i := by
  rw [counts_iff] at hk ⊢
  refine lt_of_le_of_lt ?_ hk
  calc ∑ j ∈ Iic i, (s j - s i) ≤ ∑ j ∈ Iic i, (s j - s k) := sum_le_sum fun j _ => by have := hs h; linarith
    _ ≤ ∑ j ∈ Iic k, (s j - s k) := sum_le_sum_of_subset_of_nonneg (Iic_subset_Iic.2 h) fun j hj _ => by
        have := hs (mem_Iic.1 hj); linarith

theorem mem_support {n : ℕ} (s : Fin n → ℝ) (k : Fin n) : k ∈ support s ↔ counts s k := by
  unfold support; simp

theorem counts_lt {n : ℕ} (s : Fin n → ℝ) (hs : Antitone s) (k : Fin n) : counts s k ↔ (k : ℕ) < (support s).card := by
  constructor
  · intro h
    have : Iic k ⊆ support s := fun i hi => (mem_support s i).2 (counts_mono s hs (mem_Iic.1 hi) h)
    have := card_le_card this
    rw [Fin.card_Iic] at this
    omega
  · intro h
    by_contra c
    have : support s ⊆ Iio k := fun i hi => by
      rw [mem_Iio]
      by_contra q
      exact c (counts_mono s hs (not_lt.1 q) ((mem_support s i).1 hi))
    have := card_le_card this
    rw [Fin.card_Iio] at this
    omega

theorem support_pos {n : ℕ} (s : Fin (n + 1) → ℝ) : 0 < (support s).card := by
  refine card_pos.2 ⟨0, (mem_support s 0).2 ?_⟩
  rw [counts_iff]
  have : Iic (0 : Fin (n + 1)) = {0} := by ext i; simp [Fin.le_zero_iff]
  rw [this]; simp

theorem support_le {n : ℕ} (s : Fin n → ℝ) : (support s).card ≤ n := by
  have := card_le_univ (support s); simpa using this

/-- The last position that counts. -/
def lastPos {n : ℕ} (s : Fin (n + 1) → ℝ) : Fin (n + 1) :=
  ⟨(support s).card - 1, by have := support_le s; have := support_pos s; omega⟩

/-- The threshold. -/
def tau {n : ℕ} (s : Fin (n + 1) → ℝ) : ℝ := (cum s (lastPos s) - 1) / ((support s).card : ℝ)

theorem tau_mul {n : ℕ} (s : Fin (n + 1) → ℝ) : ∑ j ∈ Iic (lastPos s), (s j - tau s) = 1 := by
  have p : (0 : ℝ) < (support s).card := by exact_mod_cast support_pos s
  have e : ((lastPos s : ℕ) : ℝ) + 1 = (support s).card := by
    have := support_pos s
    have : (lastPos s : ℕ) + 1 = (support s).card := by show (support s).card - 1 + 1 = _; omega
    exact_mod_cast this
  rw [sum_sub_distrib, sum_const, nsmul_eq_mul, card_Iic', e]
  unfold tau
  rw [mul_div_cancel₀ _ p.ne']
  unfold cum
  ring

theorem tau_lt {n : ℕ} (s : Fin (n + 1) → ℝ) (hs : Antitone s) (j : Fin (n + 1)) (hj : j ≤ lastPos s) : tau s < s j := by
  refine lt_of_lt_of_le ?_ (hs hj)
  have h : counts s (lastPos s) := (counts_lt s hs _).2 (by
    have := support_pos s
    show (support s).card - 1 < _; omega)
  rw [counts_iff] at h
  by_contra c
  have h' : ∑ j ∈ Iic (lastPos s), (s j - tau s) ≤ ∑ j ∈ Iic (lastPos s), (s j - s (lastPos s)) :=
    sum_le_sum fun j _ => by linarith [not_lt.1 c]
  rw [tau_mul] at h'
  linarith

theorem le_tau {n : ℕ} (s : Fin (n + 1) → ℝ) (hs : Antitone s) (j : Fin (n + 1)) (hj : ¬ j ≤ lastPos s) : s j ≤ tau s := by
  have hj' : lastPos s < j := not_le.1 hj
  have hn : (lastPos s : ℕ) + 1 < n + 1 := by have : (lastPos s : ℕ) < j := hj'; omega
  let k : Fin (n + 1) := ⟨(lastPos s : ℕ) + 1, hn⟩
  have hk : k ≤ j := by have : (lastPos s : ℕ) < j := hj'; show (lastPos s : ℕ) + 1 ≤ j; omega
  refine le_trans (hs hk) ?_
  have h : ¬ counts s k := by
    rw [counts_lt s hs]
    have := support_pos s
    show ¬ ((support s).card - 1 + 1 < _); omega
  rw [counts_iff, not_lt] at h
  have e : Iic k = insert k (Iic (lastPos s)) := by
    ext i
    simp only [mem_Iic, mem_insert, Fin.le_def, Fin.ext_iff]
    show (i : ℕ) ≤ (lastPos s : ℕ) + 1 ↔ (i : ℕ) = (lastPos s : ℕ) + 1 ∨ _
    omega
  have nm : k ∉ Iic (lastPos s) := by
    simp only [mem_Iic, Fin.le_def]; show ¬ ((lastPos s : ℕ) + 1 ≤ _); omega
  rw [e, sum_insert nm, sub_self, zero_add] at h
  by_contra c
  have h' : ∑ j ∈ Iic (lastPos s), (s j - s k) < ∑ j ∈ Iic (lastPos s), (s j - tau s) :=
    sum_lt_sum_of_nonempty ⟨lastPos s, mem_Iic.2 le_rfl⟩ fun j _ => by linarith [not_le.1 c]
  rw [tau_mul] at h'
  linarith

theorem rest_tau {n : ℕ} (s : Fin (n + 1) → ℝ) (hs : Antitone s) : rest s (tau s) = 1 := by
  rw [← tau_mul s]
  unfold rest
  rw [← sum_subset (subset_univ (Iic (lastPos s)))]
  rotate_left
  · intro j _ hj
    rw [mem_Iic] at hj
    exact max_eq_right (by linarith [le_tau s hs j hj])
  · exact sum_congr rfl fun j hj => max_eq_left (by linarith [tau_lt s hs j (mem_Iic.1 hj)])

theorem rest_anti {n : ℕ} (z : Fin n → ℝ) {t u : ℝ} (h : t ≤ u) : rest z u ≤ rest z t :=
  sum_le_sum fun j _ => max_le_max (by linarith) le_rfl

theorem isThreshold_tau {n : ℕ} (s : Fin (n + 1) → ℝ) (hs : Antitone s) : IsThreshold s (tau s) := by
  intro t
  constructor
  · intro h
    by_contra c
    have := rest_anti s (not_lt.1 c)
    rw [rest_tau s hs] at this
    linarith
  · intro h
    rw [← rest_tau s hs]
    refine sum_lt_sum (fun j _ => max_le_max (by linarith) le_rfl) ⟨0, mem_univ _, ?_⟩
    have h0 := tau_lt s hs 0 (Fin.zero_le _)
    rw [max_eq_left (by linarith), max_eq_left (by linarith)]
    linarith

theorem tau_le {n : ℕ} (s : Fin (n + 1) → ℝ) (hs : Antitone s) : tau s ≤ s 0 := (tau_lt s hs 0 (Fin.zero_le _)).le

/-- A permutation of the row has the same threshold. -/
theorem isThreshold_perm {n : ℕ} (z : Fin n → ℝ) (σ : Equiv.Perm (Fin n)) (τ : ℝ) (h : IsThreshold (z ∘ σ) τ) : IsThreshold z τ := by
  intro t
  rw [← h t]
  have : rest (z ∘ σ) t = rest z t := Equiv.sum_comp σ fun j => max (z j - t) 0
  rw [this]

end Cert.Sparse

end
-- ==== Proof.Extended.lean ====
/- The weights of one row over the extended reals, by halving and by sorting: they are the same real numbers, whatever the
   row. A row whose largest entry is infinite gets weight 0 throughout; an entry at minus infinity in another row counts
   like a finite one far below the largest. -/
module

public import proofs.«01_k».proof.Proof.Sparse
public import Idealize.ShloMosaic.PureOps
public import Idealize.ShloMosaic.PureOps.Ideal

@[expose] public section

noncomputable section

namespace Cert.Extended

open Idealize.ShloMosaic Finset

/-! ## By halving -/

/-- What remains of a row above a threshold. -/
def rest (a : Fin 16 → EReal) (t : EReal) : EReal := ∑ j, max (a j - t) 0

/-- The middle of two bounds. -/
def middle (p : EReal × EReal) : EReal := ((1 / 2 : ℝ) : EReal) * (p.1 + p.2)

open Classical in
/-- One halving. -/
def halve (a : Fin 16 → EReal) (p : EReal × EReal) : EReal × EReal :=
  if 1 < rest a (middle p) then (middle p, p.2) else (p.1, middle p)

/-- The largest entry. -/
def top (a : Fin 16 → EReal) : EReal := univ.fold max ⊥ a

/-- The weights from a threshold. -/
def byHalving (a : Fin 16 → EReal) (j : Fin 16) : EReal := max (a j - middle ((halve a)^[40] (top a - 1, top a))) 0

/-! ## By sorting -/

/-- The running sums. -/
def cum (s : Fin 16 → EReal) (k : Fin 16) : EReal := ∑ j ∈ Iic k, s j

/-- Whether an entry belongs to the support. -/
def counts (s : Fin 16 → EReal) (k : Fin 16) : Prop := cum s k < 1 + (((k : ℕ) + 1 : ℝ) : EReal) * s k

open Classical in
/-- The support. -/
def support (s : Fin 16 → EReal) : Finset (Fin 16) := univ.filter (counts s)

theorem mem_support (s : Fin 16 → EReal) (k : Fin 16) : k ∈ support s ↔ counts s k := by
  unfold support; simp

/-- The position that the running sum is taken from: the last of the support, the last of all if the support is empty. -/
def lastPos (s : Fin 16 → EReal) : Fin 16 := ⟨((support s).card + 15) % 16, Nat.mod_lt _ (by norm_num)⟩

/-- The threshold in closed form. -/
def tau (s : Fin 16 → EReal) : EReal := Ideal.div (cum s (lastPos s) - 1) (((support s).card : ℝ) : EReal)

/-- The threshold on the grid that starts at `base`. -/
def snap (base τ : EReal) : EReal :=
  base + (max (Ideal.liftRound Int.ceil ((τ - base) * ((2 ^ 40 : ℝ) : EReal))) 1 - ((1 / 2 : ℝ) : EReal)) * ((1 / 2 ^ 40 : ℝ) : EReal)

/-- The weights of the row `a` from its sorted entries `s`. -/
def bySorting (s a : Fin 16 → EReal) (j : Fin 16) : EReal := max (a j - snap (s 0 - 1) (tau s)) 0

/-! ## The two agree -/

theorem coe_max (a b : ℝ) : ((max a b : ℝ) : EReal) = max (a : EReal) (b : EReal) :=
  Monotone.map_max (fun _ _ h => EReal.coe_le_coe_iff.2 h)

theorem coe_sum {ι : Type} (t : Finset ι) (f : ι → ℝ) : ((∑ i ∈ t, f i : ℝ) : EReal) = ∑ i ∈ t, (f i : EReal) := by
  classical
  induction t using Finset.induction_on with
  | empty => simp
  | insert i t h ih => rw [sum_insert h, sum_insert h, EReal.coe_add, ih]

variable (a s : Fin 16 → EReal) (σ : Equiv.Perm (Fin 16))

theorem top_eq (hs : Antitone s) (hσ : ∀ k, s k = a (σ k)) : top a = s 0 := by
  apply le_antisymm
  · unfold top
    rw [fold_max_le]
    refine ⟨bot_le, fun j _ => ?_⟩
    have e := hσ (σ.symm j)
    rw [Equiv.apply_symm_apply] at e
    rw [← e]
    exact hs (Fin.zero_le _)
  · unfold top
    rw [le_fold_max]
    exact Or.inr ⟨σ 0, mem_univ _, (hσ 0).le⟩

/-- A state of the halvings whose two bounds and middle are one number stays. -/
theorem halve_fixed (t : EReal) (h : middle (t, t) = t) (n : ℕ) : (halve a)^[n] (t, t) = (t, t) := by
  induction n with
  | zero => rfl
  | succ n ih =>
    rw [Function.iterate_succ_apply', ih]
    unfold halve
    rw [h]
    split <;> rfl

theorem middle_top : middle (⊤, ⊤) = ⊤ := by
  unfold middle
  rw [EReal.top_add_top, EReal.coe_mul_top_of_pos (by norm_num)]

theorem middle_bot : middle (⊥, ⊥) = ⊥ := by
  unfold middle
  rw [EReal.bot_add, EReal.coe_mul_bot_of_pos (by norm_num)]

theorem top_sub_one : (⊤ : EReal) - 1 = ⊤ := by
  rw [← EReal.coe_one, sub_eq_add_neg, ← EReal.coe_neg, EReal.top_add_coe]

theorem bot_sub (x : EReal) : (⊥ : EReal) - x = ⊥ := by rw [sub_eq_add_neg, EReal.bot_add]

theorem sub_top (x : EReal) : x - ⊤ = ⊥ := by rw [sub_eq_add_neg, EReal.neg_top, EReal.add_bot]

theorem snap_top (τ : EReal) : snap ⊤ τ = ⊤ := by
  unfold snap
  generalize Ideal.liftRound Int.ceil ((τ - ⊤) * ((2 ^ 40 : ℝ) : EReal)) = c
  apply EReal.top_add_of_ne_bot
  have h : (1 : EReal) ≤ max c 1 := le_max_right _ _
  generalize max c 1 = x at h
  induction x with
  | bot => exact absurd h (by rw [le_bot_iff]; exact EReal.coe_ne_bot 1)
  | top => rw [sub_eq_add_neg, ← EReal.coe_neg, EReal.top_add_coe, EReal.top_mul_coe_of_pos (by positivity)]; simp
  | coe x => rw [← EReal.coe_sub, ← EReal.coe_mul]; exact EReal.coe_ne_bot _

theorem agree_top (hs : Antitone s) (hσ : ∀ k, s k = a (σ k)) (h : s 0 = ⊤) (j : Fin 16) : byHalving a j = 0 ∧ bySorting s a j = 0 := by
  unfold byHalving bySorting
  rw [top_eq a s σ hs hσ, h, top_sub_one, halve_fixed a ⊤ middle_top, middle_top, snap_top, sub_top]
  simp

theorem agree_bot (hs : Antitone s) (hσ : ∀ k, s k = a (σ k)) (h : s 0 = ⊥) (j : Fin 16) : byHalving a j = 0 ∧ bySorting s a j = 0 := by
  have ha : a j = ⊥ := by
    have e := hσ (σ.symm j)
    rw [Equiv.apply_symm_apply] at e
    rw [← e]
    exact le_bot_iff.1 (h ▸ hs (Fin.zero_le _))
  unfold byHalving bySorting
  rw [ha, bot_sub, bot_sub]
  simp

/-! ## A row whose largest entry is finite -/

/-- An entry and its stand-in `z`, no less than `r`, are cut alike at thresholds from `r` on. -/
theorem cut (x : EReal) (r m z : ℝ) (hz : (z : EReal) = max x r) (hx : x = ⊥ ∨ (r : EReal) ≤ x) (hm : r ≤ m) :
    max (x - m) 0 = ((max (z - m) 0 : ℝ) : EReal) := by
  rw [coe_max, EReal.coe_sub, EReal.coe_zero]
  rcases hx with rfl | hx
  · rw [max_eq_right bot_le, EReal.coe_eq_coe_iff] at hz
    subst hz
    rw [bot_sub, max_eq_right bot_le, max_eq_right]
    rw [← EReal.coe_sub, ← EReal.coe_zero, EReal.coe_le_coe_iff]
    linarith
  · rw [hz, max_eq_left hx]

variable (r t₀ : ℝ) (z : Fin 16 → ℝ)

theorem rest_eq (hz : ∀ j, (z j : EReal) = max (a j) r) (hx : ∀ j, a j = ⊥ ∨ (r : EReal) ≤ a j) (m : ℝ) (hm : r ≤ m) :
    rest a m = ((Sparse.rest z m : ℝ) : EReal) := by
  unfold rest Sparse.rest
  rw [coe_sum]
  exact sum_congr rfl fun j _ => cut (a j) r m (z j) (hz j) (hx j) hm

theorem middle_coe (p : ℝ × ℝ) : middle ((p.1 : EReal), (p.2 : EReal)) = ((1 / 2 * (p.1 + p.2) : ℝ) : EReal) := by
  unfold middle
  rw [EReal.coe_mul, EReal.coe_add]

theorem halve_coe (hz : ∀ j, (z j : EReal) = max (a j) r) (hx : ∀ j, a j = ⊥ ∨ (r : EReal) ≤ a j) (p : ℝ × ℝ) (hm : r ≤ 1 / 2 * (p.1 + p.2)) :
    halve a ((p.1 : EReal), (p.2 : EReal)) = (((Sparse.halve z p).1 : EReal), ((Sparse.halve z p).2 : EReal)) := by
  unfold halve Sparse.halve
  rw [middle_coe, rest_eq a r z hz hx _ hm, ← EReal.coe_one]
  by_cases h : 1 < Sparse.rest z (1 / 2 * (p.1 + p.2))
  · rw [if_pos h, if_pos (EReal.coe_lt_coe_iff.2 h)]
  · rw [if_neg h, if_neg (fun e => h (EReal.coe_lt_coe_iff.1 e))]

theorem iterate_coe (hz : ∀ j, (z j : EReal) = max (a j) r) (hx : ∀ j, a j = ⊥ ∨ (r : EReal) ≤ a j) (τ base : ℝ) (h : Sparse.IsThreshold z τ)
    (hb : τ ≤ base + 1) (hr : r ≤ base) (n : ℕ) :
    (halve a)^[n] ((base : EReal), ((base + 1 : ℝ) : EReal))
      = ((((Sparse.halve z)^[n] (base, base + 1)).1 : EReal), (((Sparse.halve z)^[n] (base, base + 1)).2 : EReal)) := by
  induction n with
  | zero => rfl
  | succ n ih =>
    rw [Function.iterate_succ_apply', ih, Function.iterate_succ_apply']
    refine halve_coe a r z hz hx _ ?_
    obtain ⟨A, e, -, -⟩ := Sparse.halve_iterate z τ base h hb n
    rw [e]
    have p1 : (0 : ℝ) ≤ A / 2 ^ n := by positivity
    have p2 : (0 : ℝ) ≤ (A + 1) / 2 ^ n := by positivity
    show r ≤ 1 / 2 * (base + A / 2 ^ n + (base + (A + 1) / 2 ^ n))
    linarith

theorem le_snap (base τ : ℝ) : base ≤ Sparse.snap base τ := by
  unfold Sparse.snap
  have h : (1 : ℝ) ≤ max (⌈(τ - base) * 2 ^ 40⌉ : ℝ) 1 := le_max_right _ _
  generalize max (⌈(τ - base) * 2 ^ 40⌉ : ℝ) 1 = x at h ⊢
  have : (0 : ℝ) ≤ (x - 1 / 2) * (1 / 2 ^ 40) := mul_nonneg (by linarith) (by positivity)
  linarith

section
variable (s' : Fin 16 → ℝ)

theorem cum_coe (hs : Antitone s) (hz : ∀ k, (s' k : EReal) = max (s k) r) (hx : ∀ k, s k = ⊥ ∨ (r : EReal) ≤ s k) (k : Fin 16) (hk : s k ≠ ⊥) :
    cum s k = ((Sparse.cum s' k : ℝ) : EReal) := by
  unfold cum Sparse.cum
  rw [coe_sum]
  refine sum_congr rfl fun j hj => ?_
  have hj' : s j ≠ ⊥ := fun e => hk (le_bot_iff.1 (e ▸ hs (mem_Iic.1 hj)))
  rw [hz, max_eq_left ((hx j).resolve_left hj')]

theorem counts_coe (hs : Antitone s) (hs' : Antitone s') (hz : ∀ k, (s' k : EReal) = max (s k) r) (hx : ∀ k, s k = ⊥ ∨ (r : EReal) ≤ s k)
    (h0 : r ≤ s' 0 - 1) (k : Fin 16) : counts s k ↔ Sparse.counts s' k := by
  by_cases hk : s k = ⊥
  · constructor
    · intro h
      unfold counts at h
      rw [hk, EReal.coe_mul_bot_of_pos (by positivity), EReal.add_bot] at h
      exact absurd h not_lt_bot
    · intro h
      rw [Sparse.counts_iff] at h
      have e : s' k = r := by
        have := hz k
        rw [hk, max_eq_right bot_le, EReal.coe_eq_coe_iff] at this
        exact this
      have := single_le_sum (f := fun j => s' j - s' k) (fun j hj => sub_nonneg.2 (hs' (mem_Iic.1 hj))) (mem_Iic.2 (Fin.zero_le k))
      linarith
  · unfold counts Sparse.counts
    rw [cum_coe s r s' hs hz hx k hk]
    have e : s k = (s' k : EReal) := by rw [hz, max_eq_left ((hx k).resolve_left hk)]
    rw [e, ← EReal.coe_mul, ← EReal.coe_one, ← EReal.coe_add, EReal.coe_lt_coe_iff]

theorem support_coe (hs : Antitone s) (hs' : Antitone s') (hz : ∀ k, (s' k : EReal) = max (s k) r) (hx : ∀ k, s k = ⊥ ∨ (r : EReal) ≤ s k)
    (h0 : r ≤ s' 0 - 1) : support s = Sparse.support s' := by
  ext k
  rw [mem_support, Sparse.mem_support, counts_coe s r s' hs hs' hz hx h0]

theorem tau_coe (hs : Antitone s) (hs' : Antitone s') (hz : ∀ k, (s' k : EReal) = max (s k) r) (hx : ∀ k, s k = ⊥ ∨ (r : EReal) ≤ s k)
    (h0 : r ≤ s' 0 - 1) : tau s = ((Sparse.tau s' : ℝ) : EReal) := by
  have e := support_coe s r s' hs hs' hz hx h0
  have hp := Sparse.support_pos s'
  have hl := Sparse.support_le s'
  have p : lastPos s = Sparse.lastPos s' := by
    apply Fin.ext
    show ((support s).card + 15) % 16 = (Sparse.support s').card - 1
    rw [e]; omega
  have hk : s (lastPos s) ≠ ⊥ := by
    have c : counts s (lastPos s) := by
      rw [counts_coe s r s' hs hs' hz hx h0, Sparse.counts_lt s' hs', p]
      show (Sparse.support s').card - 1 < _
      omega
    intro hb
    unfold counts at c
    rw [hb, EReal.coe_mul_bot_of_pos (by positivity), EReal.add_bot] at c
    exact not_lt_bot c
  have hn : ((Sparse.support s').card : ℝ) ≠ 0 := by exact_mod_cast hp.ne'
  unfold tau Sparse.tau
  rw [cum_coe s r s' hs hz hx _ hk, e, p, Ideal.div_coe hn, ← EReal.coe_one, ← EReal.coe_sub, ← EReal.coe_mul, mul_one_div]

end

theorem snap_coe (base τ : ℝ) : snap base τ = ((Sparse.snap base τ : ℝ) : EReal) := by
  unfold snap Sparse.snap
  rw [← EReal.coe_one, ← EReal.coe_sub, ← EReal.coe_mul, Ideal.liftRound_coe, ← coe_max, ← EReal.coe_sub, ← EReal.coe_mul, ← EReal.coe_add]

theorem agree_real (hs : Antitone s) (hσ : ∀ k, s k = a (σ k)) (h : s 0 = (t₀ : EReal)) :
    ∃ w : Fin 16 → ℝ, ∀ j, byHalving a j = (w j : EReal) ∧ bySorting s a j = (w j : EReal) := by
  have hle : ∀ j, a j ≤ (t₀ : EReal) := fun j => by
    have e := hσ (σ.symm j)
    rw [Equiv.apply_symm_apply] at e
    rw [← e, ← h]
    exact hs (Fin.zero_le _)
  obtain ⟨r, hr, hrt⟩ : ∃ r : ℝ, (∀ j, r ≤ (a j).toReal) ∧ r ≤ t₀ - 1 :=
    ⟨univ.inf' ⟨0, mem_univ _⟩ (fun j => min (a j).toReal (t₀ - 1)),
      fun j => (inf'_le _ (mem_univ j)).trans (min_le_left _ _), (inf'_le _ (mem_univ 0)).trans (min_le_right _ _)⟩
  have hx : ∀ j, a j = ⊥ ∨ (r : EReal) ≤ a j := fun j => by
    by_cases hb : a j = ⊥
    · exact Or.inl hb
    · refine Or.inr ?_
      rw [← EReal.coe_toReal (ne_top_of_le_ne_top (EReal.coe_ne_top _) (hle j)) hb]
      exact EReal.coe_le_coe_iff.2 (hr j)
  let z : Fin 16 → ℝ := fun j => (max (a j) r).toReal
  have hz : ∀ j, (z j : EReal) = max (a j) r := fun j =>
    EReal.coe_toReal (ne_top_of_le_ne_top (EReal.coe_ne_top (max t₀ r)) (by rw [coe_max]; exact max_le_max (hle j) le_rfl))
      (ne_bot_of_le_ne_bot (EReal.coe_ne_bot r) (le_max_right _ _))
  let s' : Fin 16 → ℝ := fun k => z (σ k)
  have hsz : ∀ k, (s' k : EReal) = max (s k) r := fun k => by rw [hσ]; exact hz _
  have hsx : ∀ k, s k = ⊥ ∨ (r : EReal) ≤ s k := fun k => by rw [hσ]; exact hx _
  have hs' : Antitone s' := fun k l e => by
    rw [← EReal.coe_le_coe_iff, hsz, hsz]
    exact max_le_max (hs e) le_rfl
  have h0 : s' 0 = t₀ := by
    rw [← EReal.coe_eq_coe_iff, hsz, h, max_eq_left]
    exact EReal.coe_le_coe_iff.2 (by linarith)
  have ht : Sparse.IsThreshold z (Sparse.tau s') := Sparse.isThreshold_perm z σ _ (Sparse.isThreshold_tau s' hs')
  have hτ : Sparse.tau s' ≤ t₀ - 1 + 1 := by have := Sparse.tau_le s' hs'; rw [h0] at this; linarith
  have hm : r ≤ Sparse.snap (t₀ - 1) (Sparse.tau s') := hrt.trans (le_snap _ _)
  refine ⟨fun j => max (z j - Sparse.snap (t₀ - 1) (Sparse.tau s')) 0, fun j => ⟨?_, ?_⟩⟩
  · unfold byHalving
    have e : ((t₀ : EReal) - 1, (t₀ : EReal)) = (((t₀ - 1 : ℝ) : EReal), ((t₀ - 1 + 1 : ℝ) : EReal)) := by
      rw [sub_add_cancel, EReal.coe_sub, EReal.coe_one]
    rw [top_eq a s σ hs hσ, h, e, iterate_coe a r z hz hx _ _ ht hτ hrt, middle_coe, Sparse.halve_snap z _ _ ht hτ]
    exact cut (a j) r _ (z j) (hz j) (hx j) hm
  · unfold bySorting
    rw [h, ← EReal.coe_one, ← EReal.coe_sub, tau_coe s r s' hs hs' hsz hsx (by rw [h0]; exact hrt), snap_coe]
    exact cut (a j) r _ (z j) (hz j) (hx j) hm

/-- The weights by halving and by sorting are the same real numbers. -/
theorem agree (hs : Antitone s) (hσ : ∀ k, s k = a (σ k)) :
    ∃ w : Fin 16 → ℝ, ∀ j, byHalving a j = (w j : EReal) ∧ bySorting s a j = (w j : EReal) := by
  induction h : s 0 with
  | bot => exact ⟨fun _ => 0, fun j => agree_bot a s σ hs hσ h j⟩
  | top => exact ⟨fun _ => 0, fun j => agree_top a s σ hs hσ h j⟩
  | coe t => exact agree_real a s σ t hs hσ h

end Cert.Extended

end
-- ==== Proof.Bisect.lean ====
/- The kernel's first call: the threshold of each row of the weights, halved forty times. -/
module

public import proofs.«01_k».proof.Proof.Point
public import proofs.«01_k».proof.Proof.Extended

@[expose] public section

set_option maxRecDepth 16384

noncomputable section

namespace Cert.Bisect

open Idealize.ShloMosaic Idealize.ShloMosaic.TcCoe Idealize.SL.Sem
open Cert.KernelIdeal Cert.KernelIdeal.Gen Cert.Lift

/-! ## The vector operations -/

/-- The middle of the two bounds of each row. -/
def mid (p : FVec Ideal S16x1 .f32 × FVec Ideal S16x1 .f32) : FVec Ideal S16x1 .f32 :=
  mulf (broadcast S16x1 (Scalar.ofBits (F := Ideal) .f32 0x3F000000#32)) (addf p.1 p.2)

/-- What remains of each row above a threshold of its own. -/
def above (z : FVec Ideal S16x16 .f32) (t : FVec Ideal S16x1 .f32) : FVec Ideal S16x16 .f32 :=
  maximumf (subf z (broadcastTo S16x16 t broadcasts_S16x1_S16x16)) (broadcast S16x16 (Scalar.ofBits (F := Ideal) .f32 0x00000000#32))

/-- Whether more than 1 remains of each row. -/
def over (z : FVec Ideal S16x16 .f32) (t : FVec Ideal S16x1 .f32) : IVec S16x1 1 :=
  cmpf .ogt (shapeCast S16x1 (multiReduction .add [1] S16 (above z t) 0x00000000#32 reduces_S16x16_S16 (.inl rfl) rfl) shapeCasts_S16_S16x1)
    (broadcast S16x1 (Scalar.ofBits (F := Ideal) .f32 0x3F800000#32))

/-- One halving. -/
def halve (z : FVec Ideal S16x16 .f32) (p : FVec Ideal S16x1 .f32 × FVec Ideal S16x1 .f32) : FVec Ideal S16x1 .f32 × FVec Ideal S16x1 .f32 :=
  (select (over z (mid p)) (mid p) p.1, select (over z (mid p)) p.2 (mid p))

/-- The bounds at first: the largest entry of each row, and 1 less. -/
def bounds (z : FVec Ideal S16x16 .f32) : FVec Ideal S16x1 .f32 × FVec Ideal S16x1 .f32 :=
  (subf (shapeCast S16x1 (multiReduction .maximumf [1] S16 z 0xFF800000#32 reduces_S16x16_S16 (.inl rfl) rfl) shapeCasts_S16_S16x1)
    (broadcast S16x1 (Scalar.ofBits (F := Ideal) .f32 0x3F800000#32)),
   shapeCast S16x1 (multiReduction .maximumf [1] S16 z 0xFF800000#32 reduces_S16x16_S16 (.inl rfl) rfl) shapeCasts_S16_S16x1)

theorem out_eq (x0 : Vec Ideal S16x16 .f32) :
    out0_1 (F := Ideal) x0 = View.canon [⟨r0_0, above (View.ld x0 r0_0) (mid ((halve (View.ld x0 r0_0))^[40] (bounds (View.ld x0 r0_0))))⟩] := by
  sl_kernel_rfl

/-! ## Row by row -/

/-- A column, and a row of the weights. -/
def col (t : Fin 16 → EReal) : FVec Ideal S16x1 .f32 := fun i => t (i 0)

def line (z : FVec Ideal S16x16 .f32) (i : Fin 16) : Fin 16 → EReal := fun j => z (ix2 i j)

theorem half_bits : (Scalar.ofBits (F := Ideal) .f32 0x3F000000#32) = ((1 / 2 : ℝ) : EReal) := by
  show Ideal.ofBits .f32 0x3F000000#32 = _
  simp [Ideal.ofBits, Ideal.ieee, -EReal.coe_mul]; norm_num

theorem bot_bits : Ideal.ofBits .f32 0xFF800000#32 = (⊥ : EReal) := by
  simp [Ideal.ofBits, Ideal.ieee, -EReal.coe_mul]

theorem idx1 (i : S16x1.Idx) : ∃ a : Fin 16, i = ix2 a (0 : Fin 1) := by
  obtain ⟨a, b, rfl⟩ := Point.idx2 i
  exact ⟨a, by rw [Subsingleton.elim b 0]⟩

theorem col_apply (t : Fin 16 → EReal) (a : Fin 16) : col t (ix2 a 0) = t a := rfl

/-- The columns of pairs. -/
def cols (p : Fin 16 → EReal × EReal) : FVec Ideal S16x1 .f32 × FVec Ideal S16x1 .f32 := (col fun i => (p i).1, col fun i => (p i).2)

theorem mid_col (p : Fin 16 → EReal × EReal) : mid (cols p) = col fun i => Extended.middle (p i) := by
  unfold mid cols
  rw [half_bits]
  funext i
  obtain ⟨a, rfl⟩ := idx1 i
  pointwise
  rw [col_apply, col_apply, col_apply]
  rfl

open Classical in
theorem over_col (z : FVec Ideal S16x16 .f32) (t : Fin 16 → EReal) (i : Fin 16) :
    over z (col t) (ix2 i 0) = if 1 < Extended.rest (line z i) (t i) then 1#1 else 0#1 := by
  unfold over above
  pointwise
  have e : ∑ x, max (z (ix2 i x) - col t (ix2 i 0)) 0 = Extended.rest (line z i) (t i) := rfl
  rw [e]
  by_cases h : 1 < Extended.rest (line z i) (t i)
  · simp [h]
  · simp [h]

theorem halve_cols (z : FVec Ideal S16x16 .f32) (p : Fin 16 → EReal × EReal) :
    halve z (cols p) = cols fun i => Extended.halve (line z i) (p i) := by
  unfold halve
  rw [mid_col]
  unfold cols
  refine Prod.ext ?_ ?_ <;> funext i <;> obtain ⟨a, rfl⟩ := idx1 i
  · show Scalar.select (over _ _ _) _ _ = (Extended.halve (line z a) (p a)).1
    rw [over_col]
    unfold Extended.halve
    by_cases h : 1 < Extended.rest (line z a) (Extended.middle (p a))
    · rw [if_pos h, if_pos h]; rfl
    · rw [if_neg h, if_neg h]; rfl
  · show Scalar.select (over _ _ _) _ _ = (Extended.halve (line z a) (p a)).2
    rw [over_col]
    unfold Extended.halve
    by_cases h : 1 < Extended.rest (line z a) (Extended.middle (p a))
    · rw [if_pos h, if_pos h]; rfl
    · rw [if_neg h, if_neg h]; rfl

theorem halve_iterate (z : FVec Ideal S16x16 .f32) (p : Fin 16 → EReal × EReal) (n : ℕ) :
    (halve z)^[n] (cols p) = cols fun i => (Extended.halve (line z i))^[n] (p i) := by
  induction n with
  | zero => rfl
  | succ n ih =>
    rw [Function.iterate_succ_apply', ih, halve_cols]
    simp only [Function.iterate_succ_apply']

theorem bounds_line (z : FVec Ideal S16x16 .f32) : bounds z = cols fun i => (Extended.top (line z i) - 1, Extended.top (line z i)) := by
  unfold bounds cols
  refine Prod.ext ?_ ?_ <;> funext i <;> obtain ⟨a, rfl⟩ := idx1 i
  · pointwise
    rw [bot_bits, col_apply]
    rfl
  · pointwise
    rw [bot_bits, col_apply]
    rfl

/-- The first call's result, row by row. -/
theorem out_line (z : FVec Ideal S16x16 .f32) (i j : Fin 16) : out0_1 (F := Ideal) z (ix2 i j) = Extended.byHalving (line z i) j := by
  have e : View.ld (Val := Elt Ideal) (e' := .f32) z r0_0 = z := by
    funext i
    refine congrArg z (funext fun a => Fin.ext ?_)
    show (r0_0.emb i a : ℕ) = _
    rw [ValueKit.rect_emb_unit_val]
    fin_cases a <;> simp
  rw [out_eq, e, View.canon_cons_unit_lit, bounds_line, halve_iterate]
  · rw [mid_col]
    unfold above
    pointwise
    rw [col_apply]
    rfl
  · intro a; fin_cases a <;> rfl

end Cert.Bisect

end
-- ==== Proof.Result.lean ====
/- The kernel's result on real inputs: what the host operation and the two calls leave in the result array, and the run. -/
module

public import proofs.«01_k».proof.Proof.Bisect
public import Idealize.ShloMosaic.Lib.Pipeline.ValueKit

@[expose] public section

set_option maxRecDepth 16384

noncomputable section

namespace Cert.Result

open Idealize.ShloMosaic Idealize.ShloMosaic.TcCoe Idealize.SL.Sem
open Idealize.ShloMosaic.Pipeline (Dat)
open Cert.KernelIdeal Cert.KernelIdeal.Gen Cert.Cheb Cert.Lift Cert.Point

variable (m : (ℓ : Loc nD τ sig) → Buf (Elt Ideal) ℓ) (ρ : Dev nD → PrngReg)

theorem index1 : ∀ t : Fin cfg1.N, win1_0.index t = ![t.val, 0, 0, 0] ∧ win1_1.index t = ![0, 0] ∧ win1_2.index t = ![t.val, 0, 0, 0] :=
  (by decide +kernel : ∀ t : Fin grid1.N, _)

theorem index0 : ∀ t : Fin cfg0.N, win0_0.index t = ![0, 0] ∧ win0_1.index t = ![0, 0] :=
  (by decide +kernel : ∀ t : Fin grid0.N, _)

/-- The first call leaves its row-wise result of the weights as launched. -/
theorem final0 (c : Dev nD) : (dat0 (F := Ideal) (V1 m ρ) c).arrAt 1 cfg0.N = out0_1 (m ((c : Thread nD τ).loc main_arg1)) := by
  refine (dat0 (V1 m ρ) c).arrAt_eq_of_after_last 1 t0_0 (by decide +kernel) _ fun j => ?_
  blk_simp
  rw [after0_1]
  have e : iblk0 (F := Ideal) (V1 m ρ) c 0 t0_0 = m ((c : Thread nD τ).loc main_arg1) := by
    funext i
    blk_ext [iblk0, index0 t0_0]
  rw [e]
  blk_ext [index0 t0_0]

/-- The second call finds the host operation's array, which the first call does not touch, and the first call's result. -/
theorem entry_x (c : Dev nD) : V2 (F := Ideal) m ρ c main_v0 = m ((c : Thread nD τ).loc main_arg0) := by
  refine (W2_of m ρ c main_v0 (by decide +kernel)).trans ?_
  rfl

theorem entry_w (c : Dev nD) : V2 (F := Ideal) m ρ c main_v1 = out0_1 (F := Ideal) (m ((c : Thread nD τ).loc main_arg1)) :=
  (hF0 m ρ c 1).symm.trans (final0 m ρ c)

variable (X : Fin 512 → Fin 16 → Mat 64) (W : Matrix (Fin 16) (Fin 16) ℝ)

/-- The result: the exponential series of the weighted sums of the logarithm series. -/
def answer : S512x16x64x64.Idx → Ideal .f32 := fun i => ((barycenter (W (i 1)) (X (i 0)) (i 2) (i 3) : ℝ) : EReal)

theorem final1 (c : Dev nD) (hX : ∀ b j p q, m ((c : Thread nD τ).loc main_arg0) (ix4 b j p q) = ((X b j p q : ℝ) : EReal))
    (hW : out0_1 (F := Ideal) (m ((c : Thread nD τ).loc main_arg1)) = up W) :
    (dat1 (F := Ideal) (V2 m ρ) c).arrAt 2 cfg1.N = answer X W := by
  refine (dat1 (V2 m ρ) c).arrAt_eq_of_covers 2 _ (by decide +kernel) fun t hf y => ?_
  have ht : t.val < 128 := lt_of_lt_of_eq t.isLt N_1
  blk_simp
  rw [after1_2]
  unfold outsAt1
  have h0 : ∀ b j p q, iblk1 (F := Ideal) (V2 m ρ) c 0 t (ix4 b j p q) = ((X ⟨4 * t.val + (b : ℕ), by omega⟩ j p q : ℝ) : EReal) := by
    intro b j p q
    rw [← hX, ← entry_x m ρ c]
    blk_ext [iblk1, index1 t]
  have h1 : ∀ i j, iblk1 (F := Ideal) (V2 m ρ) c 1 t (ix2 i j) = ((W i j : ℝ) : EReal) := by
    intro i j
    rw [← up_ix2 W, ← hW, ← entry_w m ρ c]
    blk_ext [iblk1, index1 t]
  obtain ⟨b, j, p, q, rfl⟩ : ∃ (b : Fin 4) (j : Fin 16) (p q : Fin 64), y = ix4 b j p q := ⟨y 0, y 1, y 2, y 3, eq_ix4 y⟩
  refine (out_apply (c := c) (X := fun b : Fin 4 => X ⟨4 * t.val + (b : ℕ), by omega⟩) (W := W) (hX := h0) (hW := h1) (b := b) (j := j) (m := p) (n := q) ..).trans ?_
  have e : (win1_2.blk t).view.emb (ix4 b j p q) = ix4 (⟨4 * t.val + (b : ℕ), by omega⟩ : Fin 512) j p q := by
    blk_ext [index1 t]
  rw [e]
  rfl

end Cert.Result

end
-- ==== Proof.Run.lean ====
/- The run of the kernel: it terminates with the arguments as launched and the result array at what the second call leaves. -/
module

public import proofs.«01_k».proof.Proof.Result

@[expose] public section

set_option maxRecDepth 16384

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run from `m` ends with the arrays that the last boundary holds. -/
theorem result : θ_run (defs (F := Ideal)) (onTc (τ := τ) (main (F := Ideal))) ⟨m, fun _ => 0, ρ⟩ (fun r => ∀ c : Dev nD,
      r.2.mem ((c.tc : Thread nD τ).loc main_v2) = (dat1 (F := Ideal) (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_arr m ρ c 2),
       (h c _ (mem_uc main_arg0 (by decide))).trans (W3_main_arg0 m ρ c),
       (h c _ (mem_uc main_arg1 (by decide))).trans (W3_main_arg1 m ρ c)⟩)

end Cert.Run

end
-- ==== Proof.Batch.lean ====
/- Batches of real matrices as the reference holds them: its operations on them are the matrix operations. -/
module

public import proofs.«01_k».proof.Proof.Lift
public import proofs.«01_k».proof.Proof.Gen.ReferenceIdeal.Run
public import Idealize.ShloMosaic.Lib.Pointwise

@[expose] public section

set_option maxRecDepth 16384

noncomputable section

namespace Cert.Batch

open Idealize.ShloMosaic Idealize.ShloMosaic.TcCoe Idealize.SL.Sem
open Cert.ReferenceIdeal Cert.ReferenceIdeal.Gen Cert.Cheb Cert.Lift

/-- A matrix for every batch and channel. -/
abbrev Mats := Fin 512 → Fin 16 → Mat 64

/-- The array holding the matrices `Y`. -/
def up4 (Y : Mats) : FVec Ideal S512x16x64x64 .f32 := fun i => ((Y (i 0) (i 1) (i 2) (i 3) : ℝ) : EReal)

theorem up4_ix4 (Y : Mats) (b : Fin 512) (c : Fin 16) (p q : Fin 64) : up4 Y (ix4 b c p q) = ((Y b c p q : ℝ) : EReal) := rfl

/-- One number at every place. -/
def const4 (w : BitVec 32) : FVec Ideal S512x16x64x64 .f32 :=
  broadcastInDim S512x16x64x64 ![] bcast_S_S512x16x64x64 (constant S_ .f32 w)

/-- The real number that a word is. -/
def lit (w : BitVec 32) : ℝ := (Ideal.ofBits .f32 w).toReal

/-- A word whose exponent is not the largest is a real number. -/
theorem lit_eq (w : BitVec 32) (h : (w.extractLsb' 23 8).toNat ≠ 255) : Ideal.ofBits .f32 w = ((lit w : ℝ) : EReal) := by
  have key : ∃ r : ℝ, Ideal.ofBits .f32 w = (r : EReal) := by
    unfold Ideal.ofBits Ideal.ieee
    dsimp only
    rw [if_neg (show ¬ _ = 2 ^ 8 - 1 from h)]
    split
    · exact ⟨_, rfl⟩
    · exact ⟨_, rfl⟩
  obtain ⟨r, hr⟩ := key
  unfold lit
  rw [hr, EReal.toReal_coe]

theorem add_up4 (Y Z : Mats) : addf (up4 Y) (up4 Z) = up4 (fun b c => Y b c + Z b c) := by
  funext i; exact (EReal.coe_add _ _).symm

theorem sub_up4 (Y Z : Mats) : subf (up4 Y) (up4 Z) = up4 (fun b c => Y b c - Z b c) := by
  funext i; exact (EReal.coe_sub _ _).symm

theorem scale_up4 (w : BitVec 32) (Y : Mats) (h : (w.extractLsb' 23 8).toNat ≠ 255) :
    mulf (const4 w) (up4 Y) = up4 (fun b c => lit w • Y b c) := by
  funext i
  show Ideal.ofBits .f32 w * up4 Y i = _
  rw [lit_eq w h]
  exact (EReal.coe_mul _ _).symm

theorem div_up4 (w : BitVec 32) (Y : Mats) (h : (w.extractLsb' 23 8).toNat ≠ 255) (h0 : lit w ≠ 0) :
    Host.divf (up4 Y) (const4 w) = up4 (fun b c => (1 / lit w) • Y b c) := by
  funext i
  show Ideal.div (up4 Y i) (Ideal.ofBits .f32 w) = _
  rw [lit_eq w h, Ideal.div_coe h0]
  exact (EReal.coe_mul _ _).symm.trans (congrArg _ (mul_comm _ _))

/-- The products of the matrices of two arrays. -/
def prod4 (x y : FVec Ideal S512x16x64x64 .f32) : FVec Ideal S512x16x64x64 .f32 :=
  Host.dotGeneral dot_S512x16x64x64_S512x16x64x64_S512x16x64x64_3_2_2_3_01_01 none x y

theorem mul_up4 (Y Z : Mats) : prod4 (up4 Y) (up4 Z) = up4 (fun b c => Y b c * Z b c) := by
  funext i
  idx_vars i
  pointwise [prod4]
  rw [up4_ix4, Matrix.mul_apply, coe_sum]
  exact Finset.sum_congr rfl fun k _ => (EReal.coe_mul _ _).symm

theorem two_lit : lit 0x40000000#32 = 2 := by
  simp [lit, Ideal.ofBits, Ideal.ieee, -EReal.coe_mul]; norm_num

/-- A step of the recurrence. -/
theorem step_up4 (Y : Mats) (n : ℕ) :
    subf (mulf (const4 0x40000000#32) (prod4 (up4 Y) (up4 fun b c => t (Y b c) (n + 1)))) (up4 fun b c => t (Y b c) n) = up4 fun b c => t (Y b c) (n + 2) := by
  rw [mul_up4, scale_up4 _ _ (by decide), sub_up4, two_lit]
  simp only [t_two]

/-- The unit matrix as the reference writes it. -/
def eye : FVec Ideal S64x64 .f32 :=
  uitofp .f32 (cmpi .eq (addi (iotaInDim S64x64 32 0) (broadcastInDim S64x64 ![] bcast_S_S64x64 (constantI S_ 32 0#32))) (iotaInDim S64x64 32 1))

theorem eye_eq : eye = up (1 : Mat 64) := by
  funext i
  idx_vars i
  pointwise [eye]
  rw [up_ix2, Matrix.one_apply]
  by_cases h : i0 = i1
  · subst h
    simp [IntOp.cmpi, IntOp.addi, FloatOps.uitofp]
  · have hne : ¬ (BitVec.ofNat 32 (i0 : ℕ) = BitVec.ofNat 32 (i1 : ℕ)) := by
      intro e
      have e' := congrArg BitVec.toNat e
      simp only [BitVec.toNat_ofNat] at e'
      exact h (Fin.ext (by omega))
    simp [IntOp.cmpi, IntOp.addi, FloatOps.uitofp, h, beq_eq_false_iff_ne.2 hne]

theorem eyes_eq : broadcastInDim S512x16x64x64 ![2, 3] bcast_S64x64_S512x16x64x64_2_3 eye = up4 fun _ _ => 1 := by
  rw [eye_eq]
  funext i
  idx_vars i
  pointwise
  rw [up_ix2, up4_ix4]

/-- A multiple of the unit matrix at every batch and channel. -/
theorem shift_eq (w : BitVec 32) (h : (w.extractLsb' 23 8).toNat ≠ 255) :
    broadcastInDim S512x16x64x64 ![0, 1, 2, 3] bcast_S1x1x64x64_S512x16x64x64_0_1_2_3 (broadcastInDim S1x1x64x64 ![2, 3] bcast_S64x64_S1x1x64x64_2_3
      (mulf (broadcastInDim S64x64 ![] bcast_S_S64x64 (constant S_ .f32 w)) eye)) = up4 fun _ _ => lit w • 1 := by
  rw [eye_eq]
  funext i
  idx_vars i
  pointwise
  rw [up_ix2, up4_ix4, lit_eq w h]
  exact (EReal.coe_mul _ _).symm

end Cert.Batch

end
-- ==== Proof.Sorted.lean ====
/- The rows of the weights as the reference sorts them, and the running sums of the sorted rows. -/
module

public import proofs.«01_k».proof.Proof.Batch
public import proofs.«01_k».proof.Proof.Bisect
public import Idealize.ShloMosaic.Lib.SortFacts
public import Idealize.ShloMosaic.Lib.Routing.Ops

@[expose] public section

set_option maxRecDepth 16384

noncomputable section

namespace Cert.Sorted

open Idealize.ShloMosaic Idealize.ShloMosaic.TcCoe Idealize.SL.Sem
open Cert.ReferenceIdeal Cert.ReferenceIdeal.Gen Cert.ReferenceIdeal.Value Cert.Lift
open Finset (Iic)

/-- The comparison that the sort is by. -/
theorem before_iff (a b : EReal) : comparator_f32_d1 (F := Ideal) a b = 1#1 ↔ a < b := by
  have pick : ∀ x : EReal, Scalar.select (FloatOps.cmpf (F := Ideal) .une (φ := .f32) x x)
      (FloatOps.ofBits .f32 0x7FC00000#32 : Ideal .f32)
      (Scalar.select (FloatOps.cmpf (F := Ideal) (φ := .f32) .oeq x (FloatOps.ofBits .f32 0x00000000#32))
        (FloatOps.ofBits .f32 0x00000000#32 : Ideal .f32) (x : Ideal .f32)) = x := by
    intro x
    have z : (FloatOps.ofBits .f32 0x00000000#32 : Ideal .f32) = ((0 : ℝ) : EReal) := by
      show Ideal.ofBits .f32 0x00000000#32 = _
      simp [Ideal.ofBits, Ideal.ieee, -EReal.coe_mul]
    rw [z]
    by_cases h : x = 0
    · subst h
      simp [Scalar.select, FloatOps.cmpf, Ideal.cmp]
    · simp [Scalar.select, FloatOps.cmpf, Ideal.cmp, h]
  unfold comparator_f32_d1
  dsimp only
  rw [pick a, pick b]
  by_cases h : a < b <;> simp [FloatOps.cmpfTotal, Ideal.cmpTotal, Ideal.cmp, CmpDirection.ordered, h]

/-- Whether the sort puts entry `a` of a row before entry `b`. -/
def before (z : Fin 16 → EReal) (a b : Fin 16) : Bool := comparator_f32_d1 (F := Ideal) (z a) (z b) == 1#1

theorem before_false (z : Fin 16 → EReal) (a b : Fin 16) : before z a b = false ↔ z b ≤ z a := by
  unfold before
  rw [beq_eq_false_iff_ne, ne_eq, before_iff, not_lt]

theorem before_true (z : Fin 16 → EReal) (a b : Fin 16) : before z a b = true ↔ z a < z b := by
  unfold before
  rw [beq_iff_eq, before_iff]

/-- The place along a row that the sorted row takes its entry `k` from. -/
def place (z : Fin 16 → EReal) (k : Fin 16) : Fin 16 := sortedFrom (before z) k.rev

/-- The row in decreasing order. -/
def row (z : Fin 16 → EReal) (k : Fin 16) : EReal := z (place z k)

/-- The places form a permutation. -/
theorem place_bijective (z : Fin 16 → EReal) : Function.Bijective (place z) := by
  constructor
  · intro a b h
    exact Fin.rev_injective (sortedFrom_injective (before z) h)
  · intro b
    obtain ⟨a, h⟩ := sortedFrom_surjective (before z) b
    exact ⟨a.rev, by unfold place; rw [Fin.rev_rev]; exact h⟩

theorem row_antitone (z : Fin 16 → EReal) : Antitone (row z) := by
  intro k l h
  rcases h.eq_or_lt with rfl | h
  · exact le_rfl
  have key := sortedFrom_noInversion (before z) (before z)
    (fun a b h => (before_false z b a).2 ((before_true z a b).1 h).le) (fun _ _ h => h)
    (fun a b c h h' => (before_false z a c).2 (((before_false z b c).1 h').trans ((before_false z a b).1 h)))
    l.rev k.rev (Fin.rev_lt_rev.2 h)
  exact (before_false z _ _).1 key

variable (V0 : Valuation τ sig (Elt Ideal))

/-- The rows of the weights. -/
def line (i : Fin 16) : Fin 16 → EReal := Bisect.line (V0 (Proc.devRef .tc main_arg1)) i

theorem v1_eq (i k : Fin 16) : res_main_v1 V0 (ix2 i k) = row (line V0 i) k := by
  unfold res_main_v1
  unfold Host.reverse
  have e : (fun a => if a ∈ ([1] : List (Fin S16x16.rank)) then (ix2 i k a).rev else ix2 i k a : S16x16.Idx) = ix2 i k.rev := by
    funext a
    match a with
    | ⟨0, _⟩ => rfl
    | ⟨1, _⟩ => rfl
  refine (congrArg _ e).trans ?_
  unfold Host.sort
  rw [dif_pos (show 1 < S16x16.rank by decide)]
  have al : ∀ (h1 : 1 < S16x16.rank) (c : Fin 16), (ix2 i k.rev : S16x16.Idx).along ⟨1, h1⟩ c = ix2 i c := by
    intro h1 c
    funext a
    match a with
    | ⟨0, _⟩ => rfl
    | ⟨1, _⟩ => rfl
  refine (congrArg (V0 (Proc.devRef .tc main_arg1)) (al _ _)).trans ?_
  refine congrArg (line V0 i) (?_ : _ = place (line V0 i) k)
  refine congrArg (fun B => sortedFrom (n := 16) B k.rev) ?_
  funext a b
  exact congrArg₂ (fun u v => comparator_f32_d1 (F := Ideal) (V0 (Proc.devRef .tc main_arg1) u) (V0 (Proc.devRef .tc main_arg1) v) == 1#1) (al _ a) (al _ b)

/-- A running left fold of a sum. -/
theorem foldl_sum {ι : Type} (f g : ι → EReal) (h : ∀ n, f n = g n) (l : List ι) (a : EReal) :
    l.foldl (fun r n => r + f n) a = a + (l.map g).sum := by
  induction l generalizing a with
  | nil => simp
  | cons n l ih =>
    rw [List.foldl_cons, h n, ih, List.map_cons, List.sum_cons, add_assoc]

/-- The sum over a window that ends at `k`. -/
theorem window_sum (s : Fin 16 → EReal) (k : Fin 16) :
    ∑ n : Fin 16, (if h : 15 ≤ (k : ℕ) + n ∧ (k : ℕ) + n - 15 < 16 then s ⟨k + n - 15, h.2⟩ else 0) = Extended.cum s k := by
  unfold Extended.cum
  rw [← Finset.filter_ge_eq_Iic, Finset.sum_filter]
  refine Fintype.sum_equiv (Equiv.addRight (k + 1)) _ _ fun n => ?_
  show _ = if k ≥ n + (k + 1) then s (n + (k + 1)) else 0
  have hk := k.isLt
  have hn := n.isLt
  have v : ((n + (k + 1) : Fin 16) : ℕ) = (n + (k + 1)) % 16 := by
    rw [Fin.val_add, Fin.val_add]; simp
  by_cases c : 15 ≤ (k : ℕ) + n
  · have c' : k ≥ n + (k + 1) := by
      show ((n + (k + 1) : Fin 16) : ℕ) ≤ k
      omega
    rw [dif_pos ⟨c, by omega⟩, if_pos c']
    exact congrArg s (Fin.ext (by show (k : ℕ) + n - 15 = _; omega))
  · have c' : ¬ k ≥ n + (k + 1) := by
      show ¬ ((n + (k + 1) : Fin 16) : ℕ) ≤ k
      omega
    rw [dif_neg (fun e => c e.1)]
    exact (if_neg c').symm

/-- The term of such a sum. -/
def term (s : Fin 16 → EReal) (k : Fin 16) (n : ℕ) : EReal := if h : 15 ≤ (k : ℕ) + n ∧ (k : ℕ) + n - 15 < 16 then s ⟨k + n - 15, h.2⟩ else 0

theorem list_sum {N : ℕ} (hN : N = 16) (g : ℕ → EReal) : ((List.finRange N).map fun n : Fin N => g n.val).sum = ∑ n : Fin 16, g n := by
  subst hN
  exact (Fin.sum_univ_def (fun n : Fin 16 => g n)).symm

theorem v2_eq (i k : Fin 16) : res_main_v2 V0 (ix2 i k) = Extended.cum (row (line V0 i)) k := by
  unfold res_main_v2
  have zero : (broadcastInDim S_ ![] bcast_S_S_ (constant S_ .f32 0x00000000#32) : FVec Ideal S_ .f32) (Shape.Idx.first h_S_) = (0 : EReal) := by
    show Ideal.ofBits .f32 0x00000000#32 = _
    simp [Ideal.ofBits, Ideal.ieee, -EReal.coe_mul]
  unfold Host.reduceWindowAdd
  rw [zero, Ideal.hostReduceWindowAdd_def]
  unfold Ideal.hostReduceWindowAdd Host.reduceWindow
  dsimp only
  refine (foldl_sum (ι := Fin (Routing.shape2 1 16).numel) _ (fun n => term (row (line V0 i)) k n) (fun n => ?_) _ 0).trans ?_
  · have w0 : ((Routing.shape2 1 16).rowMajor.symm n 0).val = 0 := by rw [Routing.symm2]; rfl
    have w1 : ((Routing.shape2 1 16).rowMajor.symm n 1).val = n.val := by rw [Routing.symm2]; rfl
    unfold term
    split
    · next hin =>
      have h1 := hin 1
      change 15 ≤ (k : ℕ) * 1 + ((Routing.shape2 1 16).rowMajor.symm n 1).val ∧ (k : ℕ) * 1 + ((Routing.shape2 1 16).rowMajor.symm n 1).val - 15 < 16 at h1
      rw [w1, mul_one] at h1
      rw [dif_pos h1]
      refine (congrArg (fun q : S16x16.Idx => res_main_v1 V0 q) (?_ : _ = ix2 i ⟨k + n - 15, h1.2⟩)).trans (v1_eq V0 i _)
      funext a
      apply Fin.ext
      match a with
      | ⟨0, _⟩ =>
        show (i : ℕ) * 1 + ((Routing.shape2 1 16).rowMajor.symm n 0).val - 0 = i
        rw [w0]; omega
      | ⟨1, _⟩ =>
        show (k : ℕ) * 1 + ((Routing.shape2 1 16).rowMajor.symm n 1).val - 15 = k + n - 15
        rw [w1]; omega
    · next hin =>
      rw [dif_neg]
      intro h1
      refine hin fun a => ?_
      match a with
      | ⟨0, _⟩ =>
        show 0 ≤ (i : ℕ) * 1 + ((Routing.shape2 1 16).rowMajor.symm n 0).val ∧ (i : ℕ) * 1 + ((Routing.shape2 1 16).rowMajor.symm n 0).val - 0 < 16
        have := i.isLt
        rw [w0]; omega
      | ⟨1, _⟩ =>
        show 15 ≤ (k : ℕ) * 1 + ((Routing.shape2 1 16).rowMajor.symm n 1).val ∧ (k : ℕ) * 1 + ((Routing.shape2 1 16).rowMajor.symm n 1).val - 15 < 16
        rw [w1]; omega
  · rw [zero_add]
    exact (list_sum (Routing.numel2 16) _).trans (window_sum _ _)

end Cert.Sorted

end
-- ==== Proof.Series.lean ====
/- The two series and the mixing as the reference forms them, on batches of real matrices. -/
module

public import proofs.«01_k».proof.Proof.Batch
public import proofs.«01_k».proof.Proof.Point

@[expose] public section

set_option maxRecDepth 16384

noncomputable section

namespace Cert.Series

open Idealize.ShloMosaic Idealize.ShloMosaic.TcCoe Idealize.SL.Sem
open Cert.ReferenceIdeal Cert.ReferenceIdeal.Gen Cert.ReferenceIdeal.Value Cert.Cheb Cert.Lift Cert.Batch
open Cert.Point (logShift expShift logMat barycenter)

variable (V0 : Valuation τ sig (Elt Ideal))

/-- The array of the matrices' logarithms. -/
def logsOf : FVec Ideal S512x16x64x64 .f32 :=
  Host.divf (addf (addf (addf (addf (addf (addf (addf (addf (addf (addf (addf (addf (addf (addf (addf (addf (addf (mulf (const4
    0x44A253A4#32) (res_main_v55 V0)) (mulf (const4 0x446ECBCF#32) (res_main_v54 V0))) (mulf (const4 0xC3641828#32) (res_main_v64
    V0))) (mulf (const4 0x42913F86#32) (res_main_v71 V0))) (mulf (const4 0xC1D01BAF#32) (res_main_v78 V0))) (mulf (const4
    0x411F067D#32) (res_main_v85 V0))) (mulf (const4 0xC07D2A0B#32) (res_main_v92 V0))) (mulf (const4 0x3FCF45E5#32) (res_main_v99
    V0))) (mulf (const4 0xBF2D3C65#32) (res_main_v106 V0))) (mulf (const4 0x3E93160D#32) (res_main_v113 V0))) (mulf (const4
    0xBDFCE31F#32) (res_main_v120 V0))) (mulf (const4 0x3D5B9528#32) (res_main_v127 V0))) (mulf (const4 0xBCC0362D#32)
    (res_main_v134 V0))) (mulf (const4 0x3C293F69#32) (res_main_v141 V0))) (mulf (const4 0xBB951E49#32) (res_main_v148 V0))) (mulf
    (const4 0x3B008C1A#32) (res_main_v155 V0))) (mulf (const4 0xBA3F687F#32) (res_main_v162 V0))) (mulf (const4 0x25EDF554#32)
    (subf (mulf (const4 0x40000000#32) (prod4
    (res_main_v54 V0) (res_main_v162 V0))) (res_main_v155 V0)))) (const4 0x447A0000#32)

/-- The array of the mixing weights. -/
def weightsOf : FVec Ideal S16x16 .f32 :=
  maximumf (subf (V0 (Proc.devRef .tc main_arg1)) (broadcastInDim S16x16 ![0, 1] bcast_S16x1_S16x16_0_1 (addf (res_main_v24 V0)
    (mulf (subf (maximumf (Host.ceil (mulf (subf (Host.divf (subf (select (Host.reduce IntOp.andi (andi (cmpi .sge
    (res_main_call2_v5 V0) (broadcastInDim S16x1x1 ![] bcast_S_S16x1x1 (constantI S_ 32 0#32))) (cmpi .sle (res_main_call2_v5 V0)
    (broadcastInDim S16x1x1 ![0, 1, 2] bcast_S1x1x1_S16x1x1_0_1_2 (broadcastInDim S1x1x1 ![2] bcast_S1_S1x1x1_2 (constantI S1 32
    15#32))))) (constantI S_ 1 1#1) reducesTo_S16x1x1_S16x1_d2 h_S_) (Host.gather gather_S16x16_S16x1x1_S16x1_n_1_0_0_1_2_11
    (res_main_v2 V0) (res_main_call2_v5 V0)) (broadcastInDim S16x1 ![] bcast_S_S16x1 (constant S_ .f32 0x7FC00000#32)))
    (broadcastInDim S16x1 ![] bcast_S_S16x1 (constant S_ .f32 0x3F800000#32))) (sitofp .f32 (res_main_v14 V0))) (res_main_v24 V0))
    (broadcastInDim S16x1 ![] bcast_S_S16x1 (constant S_ .f32 0x53800000#32)))) (broadcastInDim S16x1 ![] bcast_S_S16x1 (constant
    S_ .f32 0x3F800000#32))) (broadcastInDim S16x1 ![] bcast_S_S16x1 (constant S_ .f32 0x3F000000#32))) (broadcastInDim S16x1 ![]
    bcast_S_S16x1 (constant S_ .f32 0x2B800000#32)))))) (broadcastInDim S16x16 ![] bcast_S_S16x16 (constant S_ .f32
    0x00000000#32))

/-- The result array. -/
def resultOf : FVec Ideal S512x16x64x64 .f32 :=
  Host.divf (addf (addf (addf (addf (addf (addf (addf (addf (addf (addf (addf (mulf (const4 0x4572B7C5#32) (res_main_v192 V0)) (mulf
    (const4 0x45714570#32) (res_main_v191 V0))) (mulf (const4 0x4483AAC4#32) (res_main_v201 V0))) (mulf (const4 0x43448F9A#32)
    (res_main_v208 V0))) (mulf (const4 0x41DE687F#32) (res_main_v215 V0))) (mulf (const4 0x404A66F7#32) (res_main_v222 V0))) (mulf
    (const4 0x3E99F856#32) (res_main_v229 V0))) (mulf (const4 0x3CC92DA4#32) (res_main_v236 V0))) (mulf (const4 0x3AE64D24#32)
    (res_main_v243 V0))) (mulf (const4 0x38EA8EFE#32) (res_main_v250 V0))) (mulf (const4 0x36D69D1C#32) (res_main_v257 V0))) (mulf
    (const4 0x29435EF3#32) (subf (mulf (const4 0x40000000#32) (prod4 (res_main_v191 V0) (res_main_v257 V0))) (res_main_v250 V0))))
    (const4 0x447A0000#32)

/-- Mixing of matrices by weights, one for every pair of channels. -/
def mix (L : FVec Ideal S512x16x64x64 .f32) (w : FVec Ideal S16x16 .f32) : FVec Ideal S512x16x64x64 .f32 :=
  transpose S512x16x64x64 [0, 3, 1, 2] (Host.dotGeneral dot_S512x16x64x64_S16x16_S512x64x64x16_1_1_023_0_n_n none L w)
    transposes_S512x64x64x16_S512x16x64x64_0_3_1_2

theorem const4_def (w : BitVec 32) :
    (broadcastInDim S512x16x64x64 ![] bcast_S_S512x16x64x64 (constant S_ .f32 w) : FVec Ideal S512x16x64x64 .f32) = const4 w := rfl

/-- A step of the recurrence on arrays known to hold polynomials. -/
theorem step_of {a p q : FVec Ideal S512x16x64x64 .f32} {Y : Mats} {n : ℕ} (ha : a = up4 fun b c => t (Y b c) 1)
    (hp : p = up4 fun b c => t (Y b c) (n + 1)) (hq : q = up4 fun b c => t (Y b c) n) :
    subf (mulf (const4 0x40000000#32) (prod4 a p)) q
      = up4 fun b c => t (Y b c) (n + 2) := by
  subst hp hq
  simp only [t_one] at ha
  subst ha
  exact step_up4 Y n

theorem v184_eq : res_main_v184 V0 = mulf (const4 0x41A00000#32) (mix (logsOf V0) (weightsOf V0)) := rfl

/-- The numbers in the two series. -/
theorem log_lits : lit 0x44A253A4#32 = 2659561 / 2048 ∧ lit 0x446ECBCF#32 = 15649743 / 16384 ∧
    lit 0xC3641828#32 = -1868549 / 8192 ∧ lit 0x42913F86#32 = 4759491 / 65536 ∧ lit 0xC1D01BAF#32 = -13638575 / 524288 ∧
    lit 0x411F067D#32 = 10421885 / 1048576 ∧ lit 0xC07D2A0B#32 = -16591371 / 4194304 ∧ lit 0x3FCF45E5#32 = 13583845 / 8388608 ∧
    lit 0xBF2D3C65#32 = -11353189 / 16777216 ∧ lit 0x3E93160D#32 = 9639437 / 33554432 ∧
    lit 0xBDFCE31F#32 = -16573215 / 134217728 ∧ lit 0x3D5B9528#32 = 1798821 / 33554432 ∧
    lit 0xBCC0362D#32 = -12596781 / 536870912 ∧ lit 0x3C293F69#32 = 11091817 / 1073741824 ∧
    lit 0xBB951E49#32 = -9772617 / 2147483648 ∧ lit 0x3B008C1A#32 = 4212237 / 2147483648 ∧
    lit 0xBA3F687F#32 = -12544127 / 17179869184 ∧ lit 0x25EDF554#32 = 3898709 / 9444732965739290427392 := by
  simp [lit, Ideal.ofBits, Ideal.ieee, -EReal.coe_mul]; norm_num

theorem exp_lits : lit 0x4572B7C5#32 = 15906757 / 4096 ∧ lit 0x45714570#32 = 988247 / 256 ∧
    lit 0x4483AAC4#32 = 2157233 / 2048 ∧ lit 0x43448F9A#32 = 6440909 / 32768 ∧ lit 0x41DE687F#32 = 14575743 / 524288 ∧
    lit 0x404A66F7#32 = 13264631 / 4194304 ∧ lit 0x3E99F856#32 = 5045291 / 16777216 ∧ lit 0x3CC92DA4#32 = 3296105 / 134217728 ∧
    lit 0x3AE64D24#32 = 3773257 / 2147483648 ∧ lit 0x38EA8EFE#32 = 7686015 / 68719476736 ∧
    lit 0x36D69D1C#32 = 3516231 / 549755813888 ∧ lit 0x29435EF3#32 = 12803827 / 295147905179352825856 := by
  simp [lit, Ideal.ofBits, Ideal.ieee, -EReal.coe_mul]; norm_num

theorem thousand_lit : lit 0x447A0000#32 = 1000 := by
  simp [lit, Ideal.ofBits, Ideal.ieee, -EReal.coe_mul]; norm_num

theorem shift_lits : lit 0x41100000#32 = 9 ∧ lit 0x40E00000#32 = 7 ∧ lit 0x41A00000#32 = 20 ∧ lit 0x41A80000#32 = 21 ∧ lit 0x41B80000#32 = 23 := by
  simp [lit, Ideal.ofBits, Ideal.ieee, -EReal.coe_mul]; norm_num

/-- The argument of the log series. -/
theorem v54_eq (X : Mats) (hX : V0 (Proc.devRef .tc main_arg0) = up4 X) : res_main_v54 V0 = up4 fun b c => logShift (X b c) := by
  obtain ⟨h9, h7, -⟩ := shift_lits
  unfold res_main_v54 res_main_v45
  rw [const4_def, const4_def, hX, scale_up4 _ _ (by decide)]
  refine (congrArg (fun s => Host.divf (subf _ s) _) (shift_eq 0x41100000#32 (by decide))).trans ?_
  rw [sub_up4, div_up4 _ _ (by decide) (by rw [h7]; norm_num), h9, h7, two_lit]
  congr 1; funext b c
  unfold logShift
  module

/-- The log series. -/
theorem logs_eq (Y : Mats) (h : res_main_v54 V0 = up4 Y) : logsOf V0 = up4 fun b c => logSeries (Y b c) := by
  have e0 : res_main_v55 V0 = up4 fun b c => t (Y b c) 0 := by simp only [t_zero]; exact eyes_eq
  have e1 : res_main_v54 V0 = up4 fun b c => t (Y b c) 1 := by simp only [t_one]; exact h
  have e2 : res_main_v64 V0 = up4 fun b c => t (Y b c) 2 := step_of e1 e1 e0
  have e3 : res_main_v71 V0 = up4 fun b c => t (Y b c) 3 := step_of e1 e2 e1
  have e4 : res_main_v78 V0 = up4 fun b c => t (Y b c) 4 := step_of e1 e3 e2
  have e5 : res_main_v85 V0 = up4 fun b c => t (Y b c) 5 := step_of e1 e4 e3
  have e6 : res_main_v92 V0 = up4 fun b c => t (Y b c) 6 := step_of e1 e5 e4
  have e7 : res_main_v99 V0 = up4 fun b c => t (Y b c) 7 := step_of e1 e6 e5
  have e8 : res_main_v106 V0 = up4 fun b c => t (Y b c) 8 := step_of e1 e7 e6
  have e9 : res_main_v113 V0 = up4 fun b c => t (Y b c) 9 := step_of e1 e8 e7
  have e10 : res_main_v120 V0 = up4 fun b c => t (Y b c) 10 := step_of e1 e9 e8
  have e11 : res_main_v127 V0 = up4 fun b c => t (Y b c) 11 := step_of e1 e10 e9
  have e12 : res_main_v134 V0 = up4 fun b c => t (Y b c) 12 := step_of e1 e11 e10
  have e13 : res_main_v141 V0 = up4 fun b c => t (Y b c) 13 := step_of e1 e12 e11
  have e14 : res_main_v148 V0 = up4 fun b c => t (Y b c) 14 := step_of e1 e13 e12
  have e15 : res_main_v155 V0 = up4 fun b c => t (Y b c) 15 := step_of e1 e14 e13
  have e16 : res_main_v162 V0 = up4 fun b c => t (Y b c) 16 := step_of e1 e15 e14
  have e17 := step_of e1 e16 e15
  unfold logsOf
  rw [e17, e16, e15, e14, e13, e12, e11, e10, e9, e8, e7, e6, e5, e4, e3, e2, e1, e0]
  simp (disch := decide) only [scale_up4, add_up4]
  rw [div_up4 _ _ (by decide) (by rw [thousand_lit]; norm_num)]
  simp only [log_lits, thousand_lit, logSeries]

/-- The exp series. -/
theorem exps_eq (Y : Mats) (h : res_main_v191 V0 = up4 Y) : resultOf V0 = up4 fun b c => expSeries (Y b c) := by
  have e0 : res_main_v192 V0 = up4 fun b c => t (Y b c) 0 := by simp only [t_zero]; exact eyes_eq
  have e1 : res_main_v191 V0 = up4 fun b c => t (Y b c) 1 := by simp only [t_one]; exact h
  have e2 : res_main_v201 V0 = up4 fun b c => t (Y b c) 2 := step_of e1 e1 e0
  have e3 : res_main_v208 V0 = up4 fun b c => t (Y b c) 3 := step_of e1 e2 e1
  have e4 : res_main_v215 V0 = up4 fun b c => t (Y b c) 4 := step_of e1 e3 e2
  have e5 : res_main_v222 V0 = up4 fun b c => t (Y b c) 5 := step_of e1 e4 e3
  have e6 : res_main_v229 V0 = up4 fun b c => t (Y b c) 6 := step_of e1 e5 e4
  have e7 : res_main_v236 V0 = up4 fun b c => t (Y b c) 7 := step_of e1 e6 e5
  have e8 : res_main_v243 V0 = up4 fun b c => t (Y b c) 8 := step_of e1 e7 e6
  have e9 : res_main_v250 V0 = up4 fun b c => t (Y b c) 9 := step_of e1 e8 e7
  have e10 : res_main_v257 V0 = up4 fun b c => t (Y b c) 10 := step_of e1 e9 e8
  have e11 := step_of e1 e10 e9
  unfold resultOf
  rw [e11, e10, e9, e8, e7, e6, e5, e4, e3, e2, e1, e0]
  simp (disch := decide) only [scale_up4, add_up4]
  rw [div_up4 _ _ (by decide) (by rw [thousand_lit]; norm_num)]
  simp only [exp_lits, thousand_lit, expSeries]

/-- The mixing, read on real matrices and weights. -/
theorem mix_eq (L : Mats) (W : Matrix (Fin 16) (Fin 16) ℝ) : mix (up4 L) (up W) = up4 fun b i => ∑ c, W i c • L b c := by
  funext i
  idx_vars i
  pointwise [mix]
  rw [up4_ix4, Matrix.sum_apply, coe_sum]
  exact Finset.sum_congr rfl fun k _ => (EReal.coe_mul _ _).symm.trans (congrArg _ (mul_comm _ _))

/-- The argument of the exp series. -/
theorem v191_eq (M : Mats) (h : mix (logsOf V0) (weightsOf V0) = up4 M) : res_main_v191 V0 = up4 fun b c => expShift (M b c) := by
  obtain ⟨-, -, h20, h21, h23⟩ := shift_lits
  unfold res_main_v191 res_main_v182
  rw [const4_def, v184_eq, h, scale_up4 _ _ (by decide)]
  refine (congrArg (fun s => Host.divf (subf _ s) _) (shift_eq 0x41A80000#32 (by decide))).trans ?_
  rw [sub_up4, div_up4 _ _ (by decide) (by rw [h23]; norm_num), h20, h21, h23]
  congr 1; funext b c
  unfold expShift
  module

/-- The result on real matrices whose mixing weights are real. -/
theorem result_eq (X : Mats) (W : Matrix (Fin 16) (Fin 16) ℝ) (hX : V0 (Proc.devRef .tc main_arg0) = up4 X) (hW : weightsOf V0 = up W) :
    resultOf V0 = up4 fun b c => barycenter (W c) (X b) := by
  have hl := logs_eq V0 _ (v54_eq V0 X hX)
  have hm := (congrArg₂ mix hl hW).trans (mix_eq _ _)
  exact exps_eq V0 _ (v191_eq V0 _ hm)

end Cert.Series

end
-- ==== Proof.Threshold.lean ====
/- The thresholds and weights as the reference computes them from the sorted rows. -/
module

public import proofs.«01_k».proof.Proof.Sorted
public import proofs.«01_k».proof.Proof.Series
public import Idealize.ShloMosaic.Lib.ReduceAll
public import Idealize.ShloMosaic.Lib.ValueIdxCore

@[expose] public section

set_option maxRecDepth 16384

noncomputable section

namespace Cert.Threshold

open Idealize.ShloMosaic Idealize.ShloMosaic.TcCoe Idealize.SL.Sem
open Cert.ReferenceIdeal Cert.ReferenceIdeal.Gen Cert.ReferenceIdeal.Value Cert.Lift Cert.Sorted Cert.Series

variable (V0 : Valuation τ sig (Elt Ideal))

theorem one_bits : (Ideal.ofBits .f32 0x3F800000#32) = ((1 : ℝ) : EReal) := by
  simp [Ideal.ofBits, Ideal.ieee, -EReal.coe_mul]; norm_num

/-- The place that the running sum of a row is taken from, and how many entries support the row. -/
def last (i : Fin 16) : Fin 16 := Extended.lastPos (row (line V0 i))

def count (i : Fin 16) : ℕ := (Extended.support (row (line V0 i))).card

theorem count_le (i : Fin 16) : count V0 i ≤ 16 := by
  have := Finset.card_le_univ (Extended.support (row (line V0 i)))
  rwa [Fintype.card_fin] at this

/-- The comparisons that define the support. -/
def inSupport : IVec S16x16 1 :=
  cmpf .ogt (addf (broadcastInDim S16x16 ![] bcast_S_S16x16 (constant S_ .f32 0x3F800000#32))
    (mulf (broadcastInDim S16x16 ![0, 1] bcast_S1x16_S16x16_0_1 (broadcastInDim S1x16 ![1] bcast_S16_S1x16_1
      (addf (broadcastInDim S16 ![] bcast_S_S16 (constant S_ .f32 0x3F800000#32)) (sitofp .f32 (iotaInDim S16 32 0)))))
      (res_main_v1 V0))) (res_main_v2 V0)

theorem inSupport_eq (i k : Fin 16) :
    inSupport V0 (ix2 i k) = 1#1 ↔ Extended.counts (row (line V0 i)) k := by
  unfold inSupport
  pointwise
  rw [v1_eq V0, v2_eq V0]
  have c : FloatOps.sitofp (F := Ideal) .f32 (BitVec.ofNat 32 (k : ℕ)) = (((k : ℕ) : ℝ) : EReal) := by
    show (((BitVec.ofNat 32 (k : ℕ)).toInt : ℝ) : EReal) = _
    rw [StableHlo.Predicate.toInt_ofNat_small _ (by have := k.isLt; omega)]
    push_cast; rfl
  have v : (1 + (1 + FloatOps.sitofp (F := Ideal) .f32 (BitVec.ofNat 32 (k : ℕ))) * row (line V0 i) k : EReal)
      = 1 + (((k : ℕ) + 1 : ℝ) : EReal) * row (line V0 i) k := by
    rw [c, ← EReal.coe_one, ← EReal.coe_add, add_comm 1 ((k : ℕ) : ℝ)]
  have w : ∀ x : EReal, x = 1 + (((k : ℕ) + 1 : ℝ) : EReal) * row (line V0 i) k →
      (BitVec.ofBool (decide (Extended.cum (row (line V0 i)) k < x)) = 1#1 ↔ Extended.counts (row (line V0 i)) k) := by
    rintro x rfl
    unfold Extended.counts
    by_cases d : Extended.cum (row (line V0 i)) k < 1 + (((k : ℕ) + 1 : ℝ) : EReal) * row (line V0 i) k
    · rw [decide_eq_true d]; exact ⟨fun _ => d, fun _ => rfl⟩
    · rw [decide_eq_false d]; exact ⟨fun e => absurd e (by decide), fun e => absurd e d⟩
  exact w _ v

theorem spread (v : IVec S16 32) (i : Fin 16) : broadcastInDim S16x1 ![0] bcast_S16_S16x1_0 v (ix2 i 0) = v (ix1 i) := by
  pointwise

theorem v14_eq (i : Fin 16) : res_main_v14 V0 (ix2 i 0) = BitVec.ofNat 32 (count V0 i) := by
  have e : res_main_v14 V0 (ix2 i 0) = Host.reduce IntOp.addi (extui 32 (inSupport V0) natLt_1_32) (constantI S_ 32 0#32) reducesTo_S16x16_S16_d1 h_S_ (ix1 i) := by
    unfold res_main_v14 inSupport
    exact spread _ i
  rw [e]
  apply BitVec.eq_of_toNat_eq
  have hl := count_le V0 i
  refine (StableHlo.Predicate.toNat_reduce_count_cols (by norm_num) (inSupport V0) natLt_1_32 reducesTo_S16x16_S16_d1 h_S_ (ix1 i)).trans ?_
  rw [BitVec.toNat_ofNat, Nat.mod_eq_of_lt (by omega)]
  unfold count
  have hij : ∀ k : Fin 16, StableHlo.Predicate.ij i k = ix2 i k := fun k => Routing.ij_eq_ix2 i k
  refine congrArg Finset.card (Finset.ext fun k => ?_)
  rw [Finset.mem_filter, Extended.mem_support, ← inSupport_eq V0]
  exact ⟨fun e => by rw [← hij]; exact e.2, fun e => ⟨Finset.mem_univ _, by rw [← hij] at e; exact e⟩⟩

/-- The index of the running sum that is taken, as a word: one less than the number of entries, and the last for none. -/
theorem v5_eq (i : Fin 16) : res_main_call2_v5 V0 (ix3 i 0 0) = BitVec.ofNat 32 (last V0 i) := by
  have e16 : res_main_v16 V0 (ix2 i 0) = BitVec.ofNat 32 (count V0 i) - 1#32 := by
    unfold res_main_v16
    pointwise
    rw [v14_eq V0]
    rfl
  unfold res_main_call2_v5
  pointwise
  rw [e16]
  have hl := count_le V0 i
  show _ = BitVec.ofNat 32 ((count V0 i + 15) % 16)
  obtain ⟨n, hn⟩ : ∃ n : Fin 17, (n : ℕ) = count V0 i := ⟨⟨count V0 i, by omega⟩, rfl⟩
  rw [← hn]
  clear hn hl e16
  revert n
  show ∀ n : Fin 17, (if (BitVec.ofBool ((BitVec.ofNat 32 n - 1#32).slt 0#32) : BitVec 1) = 1#1 then BitVec.ofNat 32 n - 1#32 + 16#32 else BitVec.ofNat 32 n - 1#32)
    = BitVec.ofNat 32 ((n + 15) % 16)
  decide

/-- Taking the entry of each row that a column of indices names. -/
theorem gather_at (x : FVec Ideal S16x16 .f32) (idx : IVec S16x1x1 32) (i l : Fin 16) (h : idx (ix3 i 0 0) = BitVec.ofNat 32 l) :
    Host.gather gather_S16x16_S16x1x1_S16x1_n_1_0_0_1_2_11 x idx (ix2 i 0) = x (ix2 i l) := by
  unfold Host.gather
  refine congrArg x (funext fun a => Fin.ext ?_)
  match a with
  | ⟨0, _⟩ =>
    show gather_S16x16_S16x1x1_S16x1_n_1_0_0_1_2_11.start (ix2 i 0) idx 0 + gather_S16x16_S16x1x1_S16x1_n_1_0_0_1_2_11.batchCoord (ix2 i 0) 0
      + gather_S16x16_S16x1x1_S16x1_n_1_0_0_1_2_11.offCoord (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x16_S16x1x1_S16x1_n_1_0_0_1_2_11.operandBatchingDims from List.mem_singleton.mpr rfl)]
    rfl
  | ⟨1, _⟩ =>
    show gather_S16x16_S16x1x1_S16x1_n_1_0_0_1_2_11.start (ix2 i 0) idx 1 + gather_S16x16_S16x1x1_S16x1_n_1_0_0_1_2_11.batchCoord (ix2 i 0) 1
      + gather_S16x16_S16x1x1_S16x1_n_1_0_0_1_2_11.offCoord (ix2 i 0) 1 = l.val
    rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x16_S16x1x1_S16x1_n_1_0_0_1_2_11.startIndexMap from List.mem_singleton.mpr rfl)]
    have hsi : gather_S16x16_S16x1x1_S16x1_n_1_0_0_1_2_11.siIdx (ix2 i 0) ⟨List.idxOf (1 : Fin 2) gather_S16x16_S16x1x1_S16x1_n_1_0_0_1_2_11.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, h]
    show min (BitVec.ofNat 32 l).toInt.toNat (16 - 1) = l
    clear hsi h
    revert l
    decide

/-- A column of one number. -/
def const1 (w : BitVec 32) : FVec Ideal S16x1 .f32 := broadcastInDim S16x1 ![] bcast_S_S16x1 (constant S_ .f32 w)

theorem const1_at (w : BitVec 32) (r : ℝ) (h : Ideal.ofBits .f32 w = (r : EReal)) (i : Fin 16) : const1 w (ix2 i 0) = (r : EReal) := h

/-- Whether the indices lie in the rows: they do. -/
def inRange : IVec S16x1 1 :=
  Host.reduce IntOp.andi (andi (cmpi .sge (res_main_call2_v5 V0) (broadcastInDim S16x1x1 ![] bcast_S_S16x1x1 (constantI S_ 32 0#32)))
    (cmpi .sle (res_main_call2_v5 V0) (broadcastInDim S16x1x1 ![0, 1, 2] bcast_S1x1x1_S16x1x1_0_1_2 (broadcastInDim S1x1x1 ![2] bcast_S1_S1x1x1_2
      (constantI S1 32 15#32))))) (constantI S_ 1 1#1) reducesTo_S16x1x1_S16x1_d2 h_S_

theorem inRange_eq (j : S16x1.Idx) : inRange V0 j = 1#1 := by
  refine Host.reduce_andi_one _ _ _ _ j rfl fun q => ?_
  obtain ⟨i, rfl⟩ : ∃ i : Fin 16, q = ix3 i 0 0 := ⟨q 0, by
    funext a
    match a with
    | ⟨0, _⟩ => rfl
    | ⟨1, _⟩ => exact Subsingleton.elim (α := Fin 1) _ _
    | ⟨2, _⟩ => exact Subsingleton.elim (α := Fin 1) _ _⟩
  pointwise
  rw [v5_eq V0]
  generalize last V0 i = l
  revert l
  show ∀ l : Fin 16, BitVec.ofBool ((0#32 : BitVec 32).sle (BitVec.ofNat 32 l)) &&& BitVec.ofBool ((BitVec.ofNat 32 l).sle 15#32) = 1#1
  decide

/-- The running sums up to the last entries of the supports. -/
def taken : FVec Ideal S16x1 .f32 :=
  select (inRange V0) (Host.gather gather_S16x16_S16x1x1_S16x1_n_1_0_0_1_2_11 (res_main_v2 V0) (res_main_call2_v5 V0)) (const1 0x7FC00000#32)

theorem taken_eq (i : Fin 16) :
    taken V0 (ix2 i 0) = Extended.cum (row (line V0 i)) (last V0 i) := by
  show Scalar.select (inRange V0 (ix2 i 0)) (Host.gather gather_S16x16_S16x1x1_S16x1_n_1_0_0_1_2_11 (res_main_v2 V0) (res_main_call2_v5 V0) (ix2 i 0)) _ = _
  rw [inRange_eq V0, gather_at _ _ i (last V0 i) (v5_eq V0 i), v2_eq V0]
  rfl

/-- The thresholds. -/
def tauOf : FVec Ideal S16x1 .f32 := Host.divf (subf (taken V0) (const1 0x3F800000#32)) (sitofp .f32 (res_main_v14 V0))

theorem tauOf_eq (i : Fin 16) : tauOf V0 (ix2 i 0) = Extended.tau (row (line V0 i)) := by
  show Ideal.div (taken V0 (ix2 i 0) - const1 0x3F800000#32 (ix2 i 0)) (((res_main_v14 V0 (ix2 i 0) : BitVec 32).toInt : ℝ) : EReal) = _
  have hl := count_le V0 i
  rw [taken_eq V0, const1_at _ _ one_bits, v14_eq V0, StableHlo.Predicate.toInt_ofNat_small _ (by omega), Int.cast_natCast, EReal.coe_one]
  rfl

/-- The greatest entries less one. -/
def baseOf : FVec Ideal S16x1 .f32 := res_main_v24 V0

theorem baseOf_eq (i : Fin 16) : baseOf V0 (ix2 i 0) = row (line V0 i) 0 - 1 := by
  unfold baseOf res_main_v24
  pointwise
  rw [v1_eq V0]

theorem step_bits : Ideal.ofBits .f32 0x53800000#32 = ((2 ^ 40 : ℝ) : EReal) := by
  rw [show (2 ^ 40 : ℝ) = 1099511627776 by norm_num]
  simp [Ideal.ofBits, Ideal.ieee, -EReal.coe_mul]; norm_num

theorem inv_bits : Ideal.ofBits .f32 0x2B800000#32 = ((1 / 2 ^ 40 : ℝ) : EReal) := by
  simp [Ideal.ofBits, Ideal.ieee, -EReal.coe_mul]; norm_num

/-- The thresholds on the grid. -/
def snapOf : FVec Ideal S16x1 .f32 :=
  addf (baseOf V0) (mulf (subf (maximumf (Host.ceil (mulf (subf (tauOf V0) (baseOf V0)) (const1 0x53800000#32))) (const1 0x3F800000#32))
    (const1 0x3F000000#32)) (const1 0x2B800000#32))

theorem snapOf_eq (i : Fin 16) : snapOf V0 (ix2 i 0) = Extended.snap (row (line V0 i) 0 - 1) (Extended.tau (row (line V0 i))) := by
  show baseOf V0 (ix2 i 0) + (max (Ideal.liftRound Int.ceil ((tauOf V0 (ix2 i 0) - baseOf V0 (ix2 i 0)) * const1 0x53800000#32 (ix2 i 0)))
    (const1 0x3F800000#32 (ix2 i 0)) - const1 0x3F000000#32 (ix2 i 0)) * const1 0x2B800000#32 (ix2 i 0) = _
  rw [baseOf_eq V0, tauOf_eq V0, const1_at _ _ step_bits, const1_at _ _ one_bits, const1_at _ _ Bisect.half_bits, const1_at _ _ inv_bits, EReal.coe_one]
  rfl

theorem weights_def : weightsOf V0 = maximumf (subf (V0 (Proc.devRef .tc main_arg1)) (broadcastInDim S16x16 ![0, 1] bcast_S16x1_S16x16_0_1 (snapOf V0)))
    (broadcastInDim S16x16 ![] bcast_S_S16x16 (constant S_ .f32 0x00000000#32)) := rfl

/-- The reference's mixing weights, row by row. -/
theorem weights_line (i j : Fin 16) : weightsOf V0 (ix2 i j) = Extended.bySorting (row (line V0 i)) (line V0 i) j := by
  rw [weights_def]
  pointwise
  rw [snapOf_eq V0]
  rfl

/-- On any weights the two programs mix by the same real numbers. -/
theorem same_weights : ∃ W : Matrix (Fin 16) (Fin 16) ℝ,
    KernelIdeal.Gen.out0_1 (F := Ideal) (V0 (Proc.devRef .tc main_arg1)) = up W ∧ weightsOf V0 = up W := by
  have h := fun i => Extended.agree (line V0 i) (row (line V0 i)) (Equiv.ofBijective _ (place_bijective (line V0 i))) (row_antitone (line V0 i))
    fun k => congrArg (line V0 i) (Equiv.ofBijective_apply _ (place_bijective (line V0 i)) k).symm
  choose W hW using h
  refine ⟨Matrix.of W, ?_, ?_⟩ <;> funext q <;> obtain ⟨i, j, rfl⟩ := Point.idx2 q
  · exact (Bisect.out_line _ i j).trans (hW i j).1
  · exact (weights_line V0 i j).trans (hW i j).2

end Cert.Threshold

end
-- ==== Proof.Finite.lean ====
/- What the precondition says: every entry of the matrices is a real number. -/
module

public import proofs.«01_k».proof.Pre_finite
public import proofs.«01_k».proof.Proof.Lift
public import Idealize.ShloMosaic.Lib.ReduceAll

@[expose] public section

noncomputable section

namespace Cert.Finite

open Idealize.ShloMosaic Cert.Pre_finite Cert.Pre_finite.Facts

theorem facts : Cert.Pre_finite.Facts where
  bcast_S_S512x16x64x64 := by decide
  reducesTo_S512x16x64x64_S_d0_1_2_3 := by decide
  h_S_ := by decide

theorem inf_bits : Ideal.ofBits .f32 0x7F800000#32 = (⊤ : EReal) := by
  simp [Ideal.ofBits, Ideal.ieee]

/-- A number whose absolute value is below infinity is a real one. -/
theorem real_of_abs (a : EReal) (h : max a (-a) < ⊤) : a = ((a.toReal : ℝ) : EReal) := by
  induction a with
  | bot => simp at h
  | top => simp at h
  | coe r => rfl

instance : Subsingleton S_.Idx := ⟨fun a b => funext fun i => i.elim0⟩

/-- Where a comparison of an array's absolute values with infinity holds throughout, the array is real. -/
theorem real_of_all {s : Shape} {axes : List (Fin s.rank)} (hb : S_.BroadcastsInDim s (![] : Fin 0 → Fin s.rank)) (hr : s.ReducesTo axes S_) (hu : 0 < S_.numel)
    (x : FVec Ideal s .f32) (j : S_.Idx)
    (e : Host.reduce IntOp.andi (cmpf .olt (Host.absf x) (broadcastInDim s ![] hb (constant S_ .f32 0x7F800000#32))) (constantI S_ 1 1#1) hr hu j = 1#1)
    (i : s.Idx) : x i = (((x i : EReal).toReal : ℝ) : EReal) := by
  have h := Host.reduce_andi_all _ _ _ _ _ e i
  refine real_of_abs _ ?_
  have h' : BitVec.ofBool (decide (max (x i : EReal) (-(x i : EReal)) < Ideal.ofBits .f32 0x7F800000#32)) = 1#1 := h
  rw [inf_bits] at h'
  by_contra hn
  rw [decide_eq_false hn] at h'
  exact absurd h' (by decide)

theorem real_of_pre [Cert.Pre_finite.Facts] (x : FVec Ideal S512x16x64x64 .f32) (w : FVec Ideal S16x16 .f32) (h : fn (F := Ideal) x w = fun _ => 1#1)
    (i : S512x16x64x64.Idx) : x i = (((x i : EReal).toReal : ℝ) : EReal) := by
  have h0 := congrFun h (fun i => i.elim0)
  unfold fn at h0
  exact real_of_all bcast_S_S512x16x64x64 reducesTo_S512x16x64x64_S_d0_1_2_3 h_S_ x _ h0 i

end Cert.Finite

end
-- ==== Proof.Equal.lean ====
/- The two programs end with the same result: each computes the exponential series of the weighted sums of the logarithm
   series, mixed by the same weights. -/
module

public import proofs.«01_k».proof.Defs
public import proofs.«01_k».proof.Proof.Run
public import proofs.«01_k».proof.Proof.Result
public import proofs.«01_k».proof.Proof.Threshold
public import proofs.«01_k».proof.Proof.Finite

@[expose] public section

noncomputable section

namespace Cert.Equal

open Idealize.ShloMosaic Idealize.ShloMosaic.TcCoe Idealize.SL.Sem
open Cert.Cheb Cert.Lift Cert.Batch

/-- What the reference leaves, over the arrays it was launched with. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v269) = Series.resultOf (StableHlo.launchContents m c)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)) :=
  ReferenceIdeal.Value.run m ρ

/-- The real matrices of an array. -/
def matsOf (x : FVec Ideal ReferenceIdeal.S512x16x64x64 .f32) : Mats := fun b c p q => (x (ix4 b c p q) : EReal).toReal

theorem mats_eq (x : FVec Ideal ReferenceIdeal.S512x16x64x64 .f32) (h : ∀ i, x i = (((x i : EReal).toReal : ℝ) : EReal)) : x = up4 (matsOf x) := by
  funext i
  rw [eq_ix4 i]
  exact h _

/-- From any weights and real matrices, equal results. -/
theorem algebraic : algebraic_KernelIdeal_ReferenceIdeal_pre_finite (hKernelIdeal := KernelIdeal.Gen.facts) (hReferenceIdeal := ReferenceIdeal.Gen.facts)
    (hPre_finite := Finite.facts) := by
  letI := Finite.facts
  intro m g m' g' hpre harg
  have hreal := fun c => Finite.real_of_pre _ _ (hpre c)
  let X : Dev KernelIdeal.nD → Mats := fun c => matsOf (m ((c.tc : Thread KernelIdeal.nD KernelIdeal.τ).loc KernelIdeal.main_arg0))
  have hX := fun c => mats_eq _ (hreal c)
  choose W hK hR using fun c => Threshold.same_weights (StableHlo.launchContents m' c)
  refine ⟨fun c => Result.answer (X c) (W c), ?_, ?_⟩
  · refine (θ_run _ _ _).mono (fun r h c => ⟨(h c).1.trans ?_, (h c).2⟩) (Run.result m g)
    refine Result.final1 m g (X c) _ c (fun b j p q => ?_) ?_
    · exact congrFun (hX c) (ix4 b j p q)
    · exact (congrArg _ (harg c).2.symm).trans (hK c)
  · refine (θ_run _ _ _).mono (fun r h c => ⟨(h c).1.trans ?_, (h c).2⟩) (reference_run m' g')
    refine Series.result_eq _ (X c) _ ?_ (hR c)
    exact (harg c).1.trans (hX c)

end Cert.Equal

end
-- ==== Proof.lean ====
/- The claims of this directory, assembled. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Names
public import proofs.«01_k».proof.Proof.Equal
public import Idealize.ShloMosaic.Lib.Quiescent

@[expose] public section

noncomputable section

namespace Cert.Proof

open Idealize.ShloMosaic Idealize.SL.Sem

/-- The reference runs, leaves its arguments as they were, and holds no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ, fun m ρ _ => Cert.KernelIdeal.Gen.frame m ρ,
    frame_reference, fun m ρ _ => frame_reference m ρ trivial,
    Cert.Names.preserves, Cert.Equal.algebraic⟩

end Cert.Proof

end
